-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "mask" .f32 0xCE6E6B28#32 ⊥

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = Layout.block ⟨3, ![2, 128, 512]⟩ ⟨3, ![8, 128, 512]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 256]⟩ ⟨2, ![512, 1024]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![256, 512]⟩ ⟨2, ![1024, 512]⟩ 0 4 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = Layout.block ⟨3, ![2, 128, 512]⟩ ⟨3, ![8, 128, 512]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v36) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S2x128x512 : Shape := ⟨3, ![2, 128, 512]⟩
abbrev S512x256 : Shape := ⟨2, ![512, 256]⟩
abbrev S8x128x16x64 : Shape := ⟨4, ![8, 128, 16, 64]⟩
abbrev S256x512 : Shape := ⟨2, ![256, 512]⟩
abbrev S_ : Shape := ⟨0, ![]⟩

class Facts : Prop where
  bitsLt_bf16_f32 : FTy.bits .bf16 < FTy.bits .f32
  bcast_S_S2x128x512 : S_.BroadcastsInDim S2x128x512 (![] : Fin 0 → Fin S2x128x512.rank)
  reducesTo_S2x128x512_S_d0_1_2 : S2x128x512.ReducesTo [0, 1, 2] S_
  h_S_ : 0 < S_.numel
  bcast_S_S512x256 : S_.BroadcastsInDim S512x256 (![] : Fin 0 → Fin S512x256.rank)
  reducesTo_S512x256_S_d0_1 : S512x256.ReducesTo [0, 1] S_
  bcast_S_S8x128x16x64 : S_.BroadcastsInDim S8x128x16x64 (![] : Fin 0 → Fin S8x128x16x64.rank)
  reducesTo_S8x128x16x64_S_d0_1_2_3 : S8x128x16x64.ReducesTo [0, 1, 2, 3] S_

variable [Facts]

def fn_part1 {F : FTy → Type} [FloatOps F] (main_v14 : IVec S_ 1) (main_v15 : FVec F S8x128x16x64 .f32) (main_v16 : FVec F S8x128x16x64 .f32) : IVec S_ 1 :=
  let main_v17 : IVec S8x128x16x64 1 := cmpf .olt main_v15 main_v16
  let main_cst_5 : FVec F S_ .f32 := constant S_ .f32 0xFF800000#32
  let main_v18 : FVec F S8x128x16x64 .f32 := broadcastInDim S8x128x16x64 ![] bcast_S_S8x128x16x64 main_cst_5
  let main_v19 : IVec S8x128x16x64 1 := cmpf .ogt main_v15 main_v18
  let main_v20 : IVec S8x128x16x64 1 := andi main_v17 main_v19
  let main_c_6 : IVec S_ 1 := constantI S_ 1 1#1
  let main_v21 : IVec S_ 1 := (fun x v => Host.reduce IntOp.andi x v reducesTo_S8x128x16x64_S_d0_1_2_3 h_S_) main_v20 main_c_6
  let main_v22 : IVec S_ 1 := andi main_v14 main_v21
  main_v22

def fn {F : FTy → Type} [FloatOps F] (main_arg0 : FVec F S2x128x512 .bf16) (main_arg1 : FVec F S512x256 .bf16) (main_arg2 : FVec F S8x128x16x64 .bf16) (main_arg3 : FVec F S8x128x16x64 .bf16) (main_arg4 : FVec F S256x512 .bf16) : IVec S_ 1 :=
  let main_v0 : FVec F S2x128x512 .f32 := (extf .f32 · bitsLt_bf16_f32) main_arg0
  let main_cst : FVec F S_ .f32 := constant S_ .f32 0x7F800000#32
  let main_v1 : FVec F S2x128x512 .f32 := broadcastInDim S2x128x512 ![] bcast_S_S2x128x512 main_cst
  let main_v2 : IVec S2x128x512 1 := cmpf .olt main_v0 main_v1
  let main_cst_0 : FVec F S_ .f32 := constant S_ .f32 0xFF800000#32
  let main_v3 : FVec F S2x128x512 .f32 := broadcastInDim S2x128x512 ![] bcast_S_S2x128x512 main_cst_0
  let main_v4 : IVec S2x128x512 1 := cmpf .ogt main_v0 main_v3
  let main_v5 : IVec S2x128x512 1 := andi main_v2 main_v4
  let main_c : IVec S_ 1 := constantI S_ 1 1#1
  let main_v6 : IVec S_ 1 := (fun x v => Host.reduce IntOp.andi x v reducesTo_S2x128x512_S_d0_1_2 h_S_) main_v5 main_c
  let main_v7 : FVec F S512x256 .f32 := (extf .f32 · bitsLt_bf16_f32) main_arg1
  let main_cst_1 : FVec F S_ .f32 := constant S_ .f32 0x7F800000#32
  let main_v8 : FVec F S512x256 .f32 := broadcastInDim S512x256 ![] bcast_S_S512x256 main_cst_1
  let main_v9 : IVec S512x256 1 := cmpf .olt main_v7 main_v8
  let main_cst_2 : FVec F S_ .f32 := constant S_ .f32 0xFF800000#32
  let main_v10 : FVec F S512x256 .f32 := broadcastInDim S512x256 ![] bcast_S_S512x256 main_cst_2
  let main_v11 : IVec S512x256 1 := cmpf .ogt main_v7 main_v10
  let main_v12 : IVec S512x256 1 := andi main_v9 main_v11
  let main_c_3 : IVec S_ 1 := constantI S_ 1 1#1
  let main_v13 : IVec S_ 1 := (fun x v => Host.reduce IntOp.andi x v reducesTo_S512x256_S_d0_1 h_S_) main_v12 main_c_3
  let main_v14 : IVec S_ 1 := andi main_v6 main_v13
  let main_v15 : FVec F S8x128x16x64 .f32 := (extf .f32 · bitsLt_bf16_f32) main_arg2
  let main_cst_4 : FVec F S_ .f32 := constant S_ .f32 0x7F800000#32
  let main_v16 : FVec F S8x128x16x64 .f32 := broadcastInDim S8x128x16x64 ![] bcast_S_S8x128x16x64 main_cst_4
  fn_part1 (F := F) main_v14 main_v15 main_v16
-- ==== Pre_finite_ReferenceIdeal.lean ====
abbrev S8x128x512 : Shape := ⟨3, ![8, 128, 512]⟩
abbrev S512x1024 : Shape := ⟨2, ![512, 1024]⟩
abbrev S8x128x16x64 : Shape := ⟨4, ![8, 128, 16, 64]⟩
abbrev S1024x512 : Shape := ⟨2, ![1024, 512]⟩
abbrev S_ : Shape := ⟨0, ![]⟩

class Facts : Prop where
  bitsLt_bf16_f32 : FTy.bits .bf16 < FTy.bits .f32
  bcast_S_S8x128x512 : S_.BroadcastsInDim S8x128x512 (![] : Fin 0 → Fin S8x128x512.rank)
  reducesTo_S8x128x512_S_d0_1_2 : S8x128x512.ReducesTo [0, 1, 2] S_
  h_S_ : 0 < S_.numel
  bcast_S_S512x1024 : S_.BroadcastsInDim S512x1024 (![] : Fin 0 → Fin S512x1024.rank)
  reducesTo_S512x1024_S_d0_1 : S512x1024.ReducesTo [0, 1] S_
  bcast_S_S8x128x16x64 : S_.BroadcastsInDim S8x128x16x64 (![] : Fin 0 → Fin S8x128x16x64.rank)
  reducesTo_S8x128x16x64_S_d0_1_2_3 : S8x128x16x64.ReducesTo [0, 1, 2, 3] S_

variable [Facts]

def fn_part1 {F : FTy → Type} [FloatOps F] (main_v14 : IVec S_ 1) (main_v15 : FVec F S8x128x16x64 .f32) (main_v16 : FVec F S8x128x16x64 .f32) : IVec S_ 1 :=
  let main_v17 : IVec S8x128x16x64 1 := cmpf .olt main_v15 main_v16
  let main_cst_5 : FVec F S_ .f32 := constant S_ .f32 0xFF800000#32
  let main_v18 : FVec F S8x128x16x64 .f32 := broadcastInDim S8x128x16x64 ![] bcast_S_S8x128x16x64 main_cst_5
  let main_v19 : IVec S8x128x16x64 1 := cmpf .ogt main_v15 main_v18
  let main_v20 : IVec S8x128x16x64 1 := andi main_v17 main_v19
  let main_c_6 : IVec S_ 1 := constantI S_ 1 1#1
  let main_v21 : IVec S_ 1 := (fun x v => Host.reduce IntOp.andi x v reducesTo_S8x128x16x64_S_d0_1_2_3 h_S_) main_v20 main_c_6
  let main_v22 : IVec S_ 1 := andi main_v14 main_v21
  main_v22

def fn {F : FTy → Type} [FloatOps F] (main_arg0 : FVec F S8x128x512 .bf16) (main_arg1 : FVec F S512x1024 .bf16) (main_arg2 : FVec F S8x128x16x64 .bf16) (main_arg3 : FVec F S8x128x16x64 .bf16) (main_arg4 : FVec F S1024x512 .bf16) : IVec S_ 1 :=
  let main_v0 : FVec F S8x128x512 .f32 := (extf .f32 · bitsLt_bf16_f32) main_arg0
  let main_cst : FVec F S_ .f32 := constant S_ .f32 0x7F800000#32
  let main_v1 : FVec F S8x128x512 .f32 := broadcastInDim S8x128x512 ![] bcast_S_S8x128x512 main_cst
  let main_v2 : IVec S8x128x512 1 := cmpf .olt main_v0 main_v1
  let main_cst_0 : FVec F S_ .f32 := constant S_ .f32 0xFF800000#32
  let main_v3 : FVec F S8x128x512 .f32 := broadcastInDim S8x128x512 ![] bcast_S_S8x128x512 main_cst_0
  let main_v4 : IVec S8x128x512 1 := cmpf .ogt main_v0 main_v3
  let main_v5 : IVec S8x128x512 1 := andi main_v2 main_v4
  let main_c : IVec S_ 1 := constantI S_ 1 1#1
  let main_v6 : IVec S_ 1 := (fun x v => Host.reduce IntOp.andi x v reducesTo_S8x128x512_S_d0_1_2 h_S_) main_v5 main_c
  let main_v7 : FVec F S512x1024 .f32 := (extf .f32 · bitsLt_bf16_f32) main_arg1
  let main_cst_1 : FVec F S_ .f32 := constant S_ .f32 0x7F800000#32
  let main_v8 : FVec F S512x1024 .f32 := broadcastInDim S512x1024 ![] bcast_S_S512x1024 main_cst_1
  let main_v9 : IVec S512x1024 1 := cmpf .olt main_v7 main_v8
  let main_cst_2 : FVec F S_ .f32 := constant S_ .f32 0xFF800000#32
  let main_v10 : FVec F S512x1024 .f32 := broadcastInDim S512x1024 ![] bcast_S_S512x1024 main_cst_2
  let main_v11 : IVec S512x1024 1 := cmpf .ogt main_v7 main_v10
  let main_v12 : IVec S512x1024 1 := andi main_v9 main_v11
  let main_c_3 : IVec S_ 1 := constantI S_ 1 1#1
  let main_v13 : IVec S_ 1 := (fun x v => Host.reduce IntOp.andi x v reducesTo_S512x1024_S_d0_1 h_S_) main_v12 main_c_3
  let main_v14 : IVec S_ 1 := andi main_v6 main_v13
  let main_v15 : FVec F S8x128x16x64 .f32 := (extf .f32 · bitsLt_bf16_f32) main_arg2
  let main_cst_4 : FVec F S_ .f32 := constant S_ .f32 0x7F800000#32
  let main_v16 : FVec F S8x128x16x64 .f32 := broadcastInDim S8x128x16x64 ![] bcast_S_S8x128x16x64 main_cst_4
  fn_part1 (F := F) main_v14 main_v15 main_v16
-- ==== Kernel.lean ====
abbrev S2x128x512 : Shape := ⟨3, ![2, 128, 512]⟩
abbrev S512x256 : Shape := ⟨2, ![512, 256]⟩
abbrev S8x128x16x64 : Shape := ⟨4, ![8, 128, 16, 64]⟩
abbrev S256x512 : Shape := ⟨2, ![256, 512]⟩
abbrev S_ : Shape := ⟨0, ![]⟩
abbrev S2x128x16x64 : Shape := ⟨4, ![2, 128, 16, 64]⟩
abbrev S16x2x128x64 : Shape := ⟨4, ![16, 2, 128, 64]⟩
abbrev S4x512x256 : Shape := ⟨3, ![4, 512, 256]⟩
abbrev S4x256x512 : Shape := ⟨3, ![4, 256, 512]⟩
abbrev S256x256 : Shape := ⟨2, ![256, 256]⟩
abbrev S3 : Shape := ⟨1, ![3]⟩
abbrev S4 : Shape := ⟨1, ![4]⟩
abbrev S1x512x256 : Shape := ⟨3, ![1, 512, 256]⟩
abbrev S1x256x512 : Shape := ⟨3, ![1, 256, 512]⟩
abbrev S1 : Shape := ⟨1, ![1]⟩
abbrev S256x64 : Shape := ⟨2, ![256, 64]⟩
abbrev S1x2x128x64 : Shape := ⟨4, ![1, 2, 128, 64]⟩
abbrev S2x128x64 : Shape := ⟨3, ![2, 128, 64]⟩
abbrev S256 : Shape := ⟨1, ![256]⟩
abbrev S256x1 : Shape := ⟨2, ![256, 1]⟩

abbrev nBuf : Space → Nat
  | .hbm => 36
  | .vmem => 10
  | .smem => 0
  | _ => 0

abbrev bufTy : (tb : Table) → Fin (tcTables nBuf tb) → BufTy
  | .hbm, ⟨0, _⟩ => ⟨S2x128x512, .bf16⟩
  | .hbm, ⟨1, _⟩ => ⟨S512x256, .bf16⟩
  | .hbm, ⟨2, _⟩ => ⟨S8x128x16x64, .bf16⟩
  | .hbm, ⟨3, _⟩ => ⟨S8x128x16x64, .bf16⟩
  | .hbm, ⟨4, _⟩ => ⟨S256x512, .bf16⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i1⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S2x128x16x64, .bf16⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S_, .i1⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S2x128x16x64, .bf16⟩
  | .hbm, ⟨33, _⟩ => ⟨S16x2x128x64, .bf16⟩
  | .hbm, ⟨34, _⟩ => ⟨S16x2x128x64, .bf16⟩
  | .hbm, ⟨35, _⟩ => ⟨S2x128x512, .f32⟩
  | .local _ .vmem, ⟨0, _⟩ => ⟨S2x128x512, .bf16⟩
  | .local _ .vmem, ⟨1, _⟩ => ⟨S512x256, .bf16⟩
  | .local _ .vmem, ⟨2, _⟩ => ⟨S16x2x128x64, .bf16⟩
  | .local _ .vmem, ⟨3, _⟩ => ⟨S16x2x128x64, .bf16⟩
  | .local _ .vmem, ⟨4, _⟩ => ⟨S256x512, .bf16⟩
  | .local _ .vmem, ⟨5, _⟩ => ⟨S2x128x512, .f32⟩
  | .local _ .vmem, ⟨6, _⟩ => ⟨S4x512x256, .bf16⟩
  | .local _ .vmem, ⟨7, _⟩ => ⟨S4x256x512, .bf16⟩
  | .local _ .vmem, ⟨8, _⟩ => ⟨S256x512, .bf16⟩
  | .local _ .vmem, ⟨9, _⟩ => ⟨S256x256, .bf16⟩
  | _, _ => ⟨S2x128x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  (ofTc nBuf bufTy 1 20 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_v5 : Ref sig .tc := ⟨.hbm, 12, rfl⟩
abbrev main_c_2 : Ref sig .tc := ⟨.hbm, 13, rfl⟩
abbrev main_v6 : Ref sig .tc := ⟨.hbm, 14, rfl⟩
abbrev main_c_3 : Ref sig .tc := ⟨.hbm, 15, rfl⟩
abbrev main_v7 : Ref sig .tc := ⟨.hbm, 16, rfl⟩
abbrev main_v8 : Ref sig .tc := ⟨.hbm, 17, rfl⟩
abbrev main_c_4 : Ref sig .tc := ⟨.hbm, 18, rfl⟩
abbrev main_c_5 : Ref sig .tc := ⟨.hbm, 19, rfl⟩
abbrev main_c_6 : Ref sig .tc := ⟨.hbm, 20, rfl⟩
abbrev main_v9 : Ref sig .tc := ⟨.hbm, 21, rfl⟩
abbrev main_c_7 : Ref sig .tc := ⟨.hbm, 22, rfl⟩
abbrev main_v10 : Ref sig .tc := ⟨.hbm, 23, rfl⟩
abbrev main_c_8 : Ref sig .tc := ⟨.hbm, 24, rfl⟩
abbrev main_v11 : Ref sig .tc := ⟨.hbm, 25, rfl⟩
abbrev main_c_9 : Ref sig .tc := ⟨.hbm, 26, rfl⟩
abbrev main_v12 : Ref sig .tc := ⟨.hbm, 27, rfl⟩
abbrev main_v13 : Ref sig .tc := ⟨.hbm, 28, rfl⟩
abbrev main_c_10 : Ref sig .tc := ⟨.hbm, 29, rfl⟩
abbrev main_c_11 : Ref sig .tc := ⟨.hbm, 30, rfl⟩
abbrev main_c_12 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_16 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_15 : BitVec 32 := 1#32
  let v27 : BitVec 32 := Scalar.muli v14 c1_i32_15
  let v28 : BitVec 32 := Scalar.addi c0_i32_16 v27
  v28.toNat
def k0_dev2 (d0 : Dev nD) : Nat :=
  let c0_i32_19 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_18 : BitVec 32 := 1#32
  let v29 : BitVec 32 := Scalar.muli v25 c1_i32_18
  let v30 : BitVec 32 := Scalar.addi c0_i32_19 v29
  v30.toNat
def k0_dev3 (d0 : Dev nD) : Nat :=
  let c0_i32_39 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_38 : BitVec 32 := 1#32
  let v47 : BitVec 32 := Scalar.muli v25 c1_i32_38
  let v48 : BitVec 32 := Scalar.addi c0_i32_39 v47
  v48.toNat
def k0_dev4 (d0 : Dev nD) : Nat :=
  let c0_i32_49 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_48 : BitVec 32 := 1#32
  let v57 : BitVec 32 := Scalar.muli v25 c1_i32_48
  let v58 : BitVec 32 := Scalar.addi c0_i32_49 v57
  v58.toNat
def k0_dev5 (d0 : Dev nD) : Nat :=
  let c0_i32_59 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_58 : BitVec 32 := 1#32
  let v67 : BitVec 32 := Scalar.muli v14 c1_i32_58
  let v68 : BitVec 32 := Scalar.addi c0_i32_59 v67
  v68.toNat
def k0_dev6 (d0 : Dev nD) : Nat :=
  let c0_i32_69 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_68 : BitVec 32 := 1#32
  let v77 : BitVec 32 := Scalar.muli v14 c1_i32_68
  let v78 : BitVec 32 := Scalar.addi c0_i32_69 v77
  v78.toNat
def k0_off1 (d0 : Dev nD) (c0_i32_113 : BitVec 32) (c0_i32_127 : BitVec 32) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v223 : BitVec 32 := Scalar.addi v2 c0_i32_113
  let c4_i32_114 : BitVec 32 := 4#32
  let c0_i32_115 : BitVec 32 := 0#32
  let v224 : BitVec 1 := Scalar.cmpi .eq c4_i32_114 c0_i32_115
  let c1_i32_116 : BitVec 32 := 1#32
  let v225 : BitVec 32 := Scalar.select v224 c1_i32_116 c4_i32_114
  let v226 : BitVec 32 := Scalar.remsi v223 v225
  let c0_i32_118 : BitVec 32 := 0#32
  let v228 : BitVec 1 := Scalar.cmpi .slt v226 c0_i32_118
  let c0_i32_119 : BitVec 32 := 0#32
  let v229 : BitVec 1 := Scalar.cmpi .slt v225 c0_i32_119
  let v230 : BitVec 1 := Scalar.xori v228 v229
  let c0_i32_117 : BitVec 32 := 0#32
  let v227 : BitVec 1 := Scalar.cmpi .ne v226 c0_i32_117
  let v231 : BitVec 1 := Scalar.andi v230 v227
  let v232 : BitVec 32 := Scalar.addi v226 v225
  let v233 : BitVec 32 := Scalar.select v231 v232 v226
  let c4_i32_126 : BitVec 32 := 4#32
  let v239 : BitVec 32 := Scalar.muli v233 c4_i32_126
  let v240 : BitVec 32 := Scalar.addi v239 c0_i32_127
  let v242 : Index := Scalar.indexCast v240
  let c0_128 : Index := 0#32
  let c0_129 : Index := 0#32
  let c0_130 : Index := 0#32
  ![v242.toNat, 0, 0, 0]
def k0_dev7 (d0 : Dev nD) : Nat :=
  let c0_i32_203 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_202 : BitVec 32 := 1#32
  let v371 : BitVec 32 := Scalar.muli v25 c1_i32_202
  let v372 : BitVec 32 := Scalar.addi c0_i32_203 v371
  v372.toNat
def k0_dev8 (d0 : Dev nD) : Nat :=
  let c0_i32_311 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_310 : BitVec 32 := 1#32
  let v538 : BitVec 32 := Scalar.muli v14 c1_i32_310
  let v539 : BitVec 32 := Scalar.addi c0_i32_311 v538
  v539.toNat
abbrev stage0_0 : Fin 1 → Memref sig .tc .vmem S2x128x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x2x128x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x2x128x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S8x128x512 : Shape := ⟨3, ![8, 128, 512]⟩
abbrev S512x1024 : Shape := ⟨2, ![512, 1024]⟩
abbrev S8x128x16x64 : Shape := ⟨4, ![8, 128, 16, 64]⟩
abbrev S1024x512 : Shape := ⟨2, ![1024, 512]⟩
abbrev S8x128x1024 : Shape := ⟨3, ![8, 128, 1024]⟩
abbrev S128 : Shape := ⟨1, ![128]⟩
abbrev S_ : Shape := ⟨0, ![]⟩
abbrev S128x1 : Shape := ⟨2, ![128, 1]⟩
abbrev S1x128 : Shape := ⟨2, ![1, 128]⟩
abbrev S128x128 : Shape := ⟨2, ![128, 128]⟩
abbrev S8x16x128x128 : Shape := ⟨4, ![8, 16, 128, 128]⟩
abbrev S1x1x128x128 : Shape := ⟨4, ![1, 1, 128, 128]⟩
abbrev S8x16x128 : Shape := ⟨3, ![8, 16, 128]⟩
abbrev S8x16x128x1 : Shape := ⟨4, ![8, 16, 128, 1]⟩
abbrev S1x1x128x1 : Shape := ⟨4, ![1, 1, 128, 1]⟩
abbrev S8x16x64x128 : Shape := ⟨4, ![8, 16, 64, 128]⟩

abbrev nBuf : Space → Nat
  | .hbm => 92
  | .vmem => 0
  | .smem => 0
  | _ => 0

abbrev bufTy : (tb : Table) → Fin (tcTables nBuf tb) → BufTy
  | .hbm, ⟨0, _⟩ => ⟨S8x128x512, .bf16⟩
  | .hbm, ⟨1, _⟩ => ⟨S512x1024, .bf16⟩
  | .hbm, ⟨2, _⟩ => ⟨S8x128x16x64, .bf16⟩
  | .hbm, ⟨3, _⟩ => ⟨S8x128x16x64, .bf16⟩
  | .hbm, ⟨4, _⟩ => ⟨S1024x512, .bf16⟩
  | .hbm, ⟨5, _⟩ => ⟨S8x128x1024, .f32⟩
  | .hbm, ⟨6, _⟩ => ⟨S8x128x1024, .bf16⟩
  | .hbm, ⟨7, _⟩ => ⟨S8x128x16x64, .bf16⟩
  | .hbm, ⟨8, _⟩ => ⟨S128, .i32⟩
  | .hbm, ⟨9, _⟩ => ⟨S_, .i32⟩
  | .hbm, ⟨10, _⟩ => ⟨S_, .i32⟩
  | .hbm, ⟨11, _⟩ => ⟨S128, .i32⟩
  | .hbm, ⟨12, _⟩ => ⟨S128, .i32⟩
  | .hbm, ⟨13, _⟩ => ⟨S128, .i32⟩
  | .hbm, ⟨14, _⟩ => ⟨S_, .i32⟩
  | .hbm, ⟨15, _⟩ => ⟨S128, .i32⟩
  | .hbm, ⟨16, _⟩ => ⟨S128, .i1⟩
  | .hbm, ⟨17, _⟩ => ⟨S128, .i32⟩
  | .hbm, ⟨18, _⟩ => ⟨S128, .i32⟩
  | .hbm, ⟨19, _⟩ => ⟨S_, .i32⟩
  | .hbm, ⟨20, _⟩ => ⟨S128, .i32⟩
  | .hbm, ⟨21, _⟩ => ⟨S128, .i1⟩
  | .hbm, ⟨22, _⟩ => ⟨S128, .i1⟩
  | .hbm, ⟨23, _⟩ => ⟨S_, .i32⟩
  | .hbm, ⟨24, _⟩ => ⟨S128, .i32⟩
  | .hbm, ⟨25, _⟩ => ⟨S128, .i32⟩
  | .hbm, ⟨26, _⟩ => ⟨S128, .i32⟩
  | .hbm, ⟨27, _⟩ => ⟨S128x1, .i32⟩
  | .hbm, ⟨28, _⟩ => ⟨S128, .i32⟩
  | .hbm, ⟨29, _⟩ => ⟨S_, .i32⟩
  | .hbm, ⟨30, _⟩ => ⟨S_, .i32⟩
  | .hbm, ⟨31, _⟩ => ⟨S128, .i32⟩
  | .hbm, ⟨32, _⟩ => ⟨S128, .i32⟩
  | .hbm, ⟨33, _⟩ => ⟨S128, .i32⟩
  | .hbm, ⟨34, _⟩ => ⟨S_, .i32⟩
  | .hbm, ⟨35, _⟩ => ⟨S128, .i32⟩
  | .hbm, ⟨36, _⟩ => ⟨S128, .i1⟩
  | .hbm, ⟨37, _⟩ => ⟨S128, .i32⟩
  | .hbm, ⟨38, _⟩ => ⟨S128, .i32⟩
  | .hbm, ⟨39, _⟩ => ⟨S_, .i32⟩
  | .hbm, ⟨40, _⟩ => ⟨S128, .i32⟩
  | .hbm, ⟨41, _⟩ => ⟨S128, .i1⟩
  | .hbm, ⟨42, _⟩ => ⟨S128, .i1⟩
  | .hbm, ⟨43, _⟩ => ⟨S_, .i32⟩
  | .hbm, ⟨44, _⟩ => ⟨S128, .i32⟩
  | .hbm, ⟨45, _⟩ => ⟨S128, .i32⟩
  | .hbm, ⟨46, _⟩ => ⟨S128, .i32⟩
  | .hbm, ⟨47, _⟩ => ⟨S1x128, .i32⟩
  | .hbm, ⟨48, _⟩ => ⟨S128x128, .i32⟩
  | .hbm, ⟨49, _⟩ => ⟨S128x128, .i32⟩
  | .hbm, ⟨50, _⟩ => ⟨S128x128, .i1⟩
  | .hbm, ⟨51, _⟩ => ⟨S8x16x128x128, .f32⟩
  | .hbm, ⟨52, _⟩ => ⟨S8x16x128x128, .bf16⟩
  | .hbm, ⟨53, _⟩ => ⟨S8x16x128x128, .f32⟩
  | .hbm, ⟨54, _⟩ => ⟨S_, .f32⟩
  | .hbm, ⟨55, _⟩ => ⟨S8x16x128x128, .f32⟩
  | .hbm, ⟨56, _⟩ => ⟨S8x16x128x128, .f32⟩
  | .hbm, ⟨57, _⟩ => ⟨S1x1x128x128, .i1⟩
  | .hbm, ⟨58, _⟩ => ⟨S_, .f32⟩
  | .hbm, ⟨59, _⟩ => ⟨S_, .f32⟩
  | .hbm, ⟨60, _⟩ => ⟨S8x16x128x128, .i1⟩
  | .hbm, ⟨61, _⟩ => ⟨S8x16x128x128, .f32⟩
  | .hbm, ⟨62, _⟩ => ⟨S8x16x128x128, .f32⟩
  | .hbm, ⟨63, _⟩ => ⟨S_, .f32⟩
  | .hbm, ⟨64, _⟩ => ⟨S8x16x128, .f32⟩
  | .hbm, ⟨65, _⟩ => ⟨S8x16x128x1, .f32⟩
  | .hbm, ⟨66, _⟩ => ⟨S8x16x128x128, .f32⟩
  | .hbm, ⟨67, _⟩ => ⟨S8x16x128x128, .f32⟩
  | .hbm, ⟨68, _⟩ => ⟨S8x16x128x128, .f32⟩
  | .hbm, ⟨69, _⟩ => ⟨S_, .i1⟩
  | .hbm, ⟨70, _⟩ => ⟨S128, .i1⟩
  | .hbm, ⟨71, _⟩ => ⟨S1x1x128x1, .i1⟩
  | .hbm, ⟨72, _⟩ => ⟨S_, .f32⟩
  | .hbm, ⟨73, _⟩ => ⟨S8x16x128, .f32⟩
  | .hbm, ⟨74, _⟩ => ⟨S8x16x128x1, .f32⟩
  | .hbm, ⟨75, _⟩ => ⟨S_, .f32⟩
  | .hbm, ⟨76, _⟩ => ⟨S_, .f32⟩
  | .hbm, ⟨77, _⟩ => ⟨S8x16x128x1, .i1⟩
  | .hbm, ⟨78, _⟩ => ⟨S8x16x128x1, .f32⟩
  | .hbm, ⟨79, _⟩ => ⟨S8x16x128x1, .f32⟩
  | .hbm, ⟨80, _⟩ => ⟨S8x16x128x128, .f32⟩
  | .hbm, ⟨81, _⟩ => ⟨S8x16x128x128, .f32⟩
  | .hbm, ⟨82, _⟩ => ⟨S1x1x128x1, .i1⟩
  | .hbm, ⟨83, _⟩ => ⟨S_, .f32⟩
  | .hbm, ⟨84, _⟩ => ⟨S_, .f32⟩
  | .hbm, ⟨85, _⟩ => ⟨S8x16x128x128, .i1⟩
  | .hbm, ⟨86, _⟩ => ⟨S8x16x128x128, .f32⟩
  | .hbm, ⟨87, _⟩ => ⟨S8x16x128x128, .f32⟩
  | .hbm, ⟨88, _⟩ => ⟨S8x16x64x128, .f32⟩
  | .hbm, ⟨89, _⟩ => ⟨S8x128x16x64, .f32⟩
  | .hbm, ⟨90, _⟩ => ⟨S8x128x1024, .f32⟩
  | .hbm, ⟨91, _⟩ => ⟨S8x128x512, .f32⟩
  | _, _ => ⟨S8x128x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_c : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_0 : Ref sig .tc := ⟨.hbm, 23, rfl⟩
abbrev main_call0_v12 : Ref sig .tc := ⟨.hbm, 24, rfl⟩
abbrev main_call0_v13 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_c_0 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_v5 : Ref sig .tc := ⟨.hbm, 35, rfl⟩
abbrev main_call1_v6 : Ref sig .tc := ⟨.hbm, 36, rfl⟩
abbrev main_call1_v7 : Ref sig .tc := ⟨.hbm, 37, rfl⟩
abbrev main_call1_v8 : Ref sig .tc := ⟨.hbm, 38, rfl⟩
abbrev main_call1_c : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_c_0 : Ref sig .tc := ⟨.hbm, 43, rfl⟩
abbrev main_call1_v12 : Ref sig .tc := ⟨.hbm, 44, rfl⟩
abbrev main_call1_v13 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_v11 : Ref sig .tc := ⟨.hbm, 50, rfl⟩
abbrev main_v12 : Ref sig .tc := ⟨.hbm, 51, rfl⟩
abbrev main_v13 : Ref sig .tc := ⟨.hbm, 52, rfl⟩
abbrev main_v14 : Ref sig .tc := ⟨.hbm, 53, rfl⟩
abbrev main_cst : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_cst_1 : Ref sig .tc := ⟨.hbm, 58, rfl⟩
abbrev main_call2_v0 : Ref sig .tc := ⟨.hbm, 59, rfl⟩
abbrev main_call2_v1 : Ref sig .tc := ⟨.hbm, 60, rfl⟩
abbrev main_call2_v2 : Ref sig .tc := ⟨.hbm, 61, rfl⟩
abbrev main_v18 : Ref sig .tc := ⟨.hbm, 62, rfl⟩
abbrev main_cst_2 : Ref sig .tc := ⟨.hbm, 63, rfl⟩
abbrev main_v19 : Ref sig .tc := ⟨.hbm, 64, rfl⟩
abbrev main_v20 : Ref sig .tc := ⟨.hbm, 65, rfl⟩
abbrev main_v21 : Ref sig .tc := ⟨.hbm, 66, rfl⟩
abbrev main_v22 : Ref sig .tc := ⟨.hbm, 67, rfl⟩
abbrev main_v23 : Ref sig .tc := ⟨.hbm, 68, rfl⟩
abbrev main_c_3 : Ref sig .tc := ⟨.hbm, 69, rfl⟩
abbrev main_v24 : Ref sig .tc := ⟨.hbm, 70, rfl⟩
abbrev main_v25 : Ref sig .tc := ⟨.hbm, 71, rfl⟩
abbrev main_cst_4 : Ref sig .tc := ⟨.hbm, 72, rfl⟩
abbrev main_v26 : Ref sig .tc := ⟨.hbm, 73, rfl⟩
abbrev main_v27 : Ref sig .tc := ⟨.hbm, 74, rfl⟩
abbrev main_cst_5 : Ref sig .tc := ⟨.hbm, 75, rfl⟩
abbrev main_call3_v0 : Ref sig .tc := ⟨.hbm, 76, rfl⟩
abbrev main_call3_v1 : Ref sig .tc := ⟨.hbm, 77, rfl⟩
abbrev main_call3_v2 : Ref sig .tc := ⟨.hbm, 78, rfl⟩
abbrev main_v28 : Ref sig .tc := ⟨.hbm, 79, rfl⟩
abbrev main_v29 : Ref sig .tc := ⟨.hbm, 80, rfl⟩
abbrev main_v30 : Ref sig .tc := ⟨.hbm, 81, rfl⟩
abbrev main_v31 : Ref sig .tc := ⟨.hbm, 82, rfl⟩
abbrev main_cst_6 : Ref sig .tc := ⟨.hbm, 83, rfl⟩
abbrev main_call4_v0 : Ref sig .tc := ⟨.hbm, 84, rfl⟩
abbrev main_call4_v1 : Ref sig .tc := ⟨.hbm, 85, rfl⟩
abbrev main_call4_v2 : Ref sig .tc := ⟨.hbm, 86, rfl⟩
abbrev main_v32 : Ref sig .tc := ⟨.hbm, 87, rfl⟩
abbrev main_v33 : Ref sig .tc := ⟨.hbm, 88, rfl⟩
abbrev main_v34 : Ref sig .tc := ⟨.hbm, 89, rfl⟩
abbrev main_v35 : Ref sig .tc := ⟨.hbm, 90, rfl⟩
abbrev main_v36 : Ref sig .tc := ⟨.hbm, 91, rfl⟩

abbrev nD : Nat := 1
abbrev τ : Topo := Topo.v7x

variable {F : FTy → Type} [FloatOps F]
-- ==== Proof.Protocol.lean ====
/-
# The exchange between the four devices, written down

Device `c` has a right neighbour `c + 1` and a left neighbour `c + 3` (mod 4). Before anything moves, each device
signals the BARRIER cell of both neighbours and waits for 2 on its own. Then six remote copies per device, numbered
in program order:

  0  query weights,  slot 0 of `c`  → slot 1 of the right neighbour
  1  output weights, slot 0 of `c`  → slot 1 of the right neighbour
  2  query weights,  slot 0 of `c`  → slot 2 of the left neighbour
  3  output weights, slot 0 of `c`  → slot 2 of the left neighbour
  4  query weights,  slot 1 of `c`  → slot 3 of the right neighbour   (forwarded)
  5  output weights, slot 2 of `c`  → slot 3 of the left neighbour    (forwarded)

so that slot 1 ends with the left neighbour's block, slot 2 with the right neighbour's, slot 3 with the block of the
device opposite. Copy `j` has a cell on the sender (`true`), which returns the share of the source it was lent, and a
cell on the receiver (`false`), which hands over the destination at the block that landed. A signal to the left
neighbour hands over the destinations that IT writes on the signaller (copies 0, 1, 4), a signal to the right one
those of copies 2, 3, 5; with each goes the fact that the receiver's cell is open.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import Idealize.ShloMosaic.Lib.Pipeline.Launch
public import Idealize.ShloMosaic.Lib.Pipeline.Kit
public import Idealize.ShloMosaic.Lib.Pipeline.Regions
public import Idealize.ShloMosaic.Lib.Pipeline.RegionTalk
public import Idealize.ShloMosaic.Lib.Rounds
public import Idealize.ShloMosaic.Lib.Tactic

@[expose] public section

noncomputable section

namespace Cert.KernelIdeal.Proto

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-- The rounds of the kernel's own cells. -/
abbrev UB : Type := URounds (GSem nD τ sig) Bool
/-- The ghost state: the pipeline's and the kernel's own. -/
abbrev UU : Type := UR sig nD τ × UB

local notation "𝕄" => MT nD τ sig Unit (Elt F) ℕ UU ℕ

/-- The pipeline's part of the ghost state. -/
abbrev EP : Emb (UR sig nD τ) (MT nD τ sig Unit (Elt F) ℕ UU ℕ) := embL
/-- The kernel's own part of the ghost state. -/
abbrev ER : Emb UB (MT nD τ sig Unit (Elt F) ℕ UU ℕ) := embR

variable (m : (ℓ : Loc nD τ sig) → Buf (Elt F) ℓ)

/-! ## The ring -/

/-- The right neighbour on the ring. -/
def right (c : Dev nD) : Dev nD := ⟨(c.val + 1) % 4, Nat.mod_lt _ (by decide)⟩
/-- The left neighbour on the ring. -/
def left (c : Dev nD) : Dev nD := ⟨(c.val + 3) % 4, Nat.mod_lt _ (by decide)⟩
/-- The device opposite on the ring. -/
def opp (c : Dev nD) : Dev nD := right (right c)
/-- The right neighbour of the left neighbour is the device itself. -/
theorem right_left (c : Dev nD) : right (left c) = c := by revert c; decide
/-- The left neighbour of the right neighbour is the device itself. -/
theorem left_right (c : Dev nD) : left (right c) = c := by revert c; decide
/-- Two steps to the left are two steps to the right. -/
theorem left_left (c : Dev nD) : left (left c) = opp c := by revert c; decide

/-- The barrier's first signal goes to the left neighbour. -/
theorem dev1_eq (c : Dev nD) : (⟨k0_dev1 c, k0_dev1_lt c⟩ : Dev nD) = left c := by revert c; decide +kernel
/-- The barrier's second signal goes to the right neighbour. -/
theorem dev2_eq (c : Dev nD) : (⟨k0_dev2 c, k0_dev2_lt c⟩ : Dev nD) = right c := by revert c; decide +kernel
/-- The first copy, of the query weights, goes to the right neighbour. -/
theorem dev3_eq (c : Dev nD) : (⟨k0_dev3 c, k0_dev3_lt c⟩ : Dev nD) = right c := by revert c; decide +kernel
/-- The second copy, of the output weights, goes to the right neighbour. -/
theorem dev4_eq (c : Dev nD) : (⟨k0_dev4 c, k0_dev4_lt c⟩ : Dev nD) = right c := by revert c; decide +kernel
/-- The third copy, of the query weights, goes to the left neighbour. -/
theorem dev5_eq (c : Dev nD) : (⟨k0_dev5 c, k0_dev5_lt c⟩ : Dev nD) = left c := by revert c; decide +kernel
/-- The fourth copy, of the output weights, goes to the left neighbour. -/
theorem dev6_eq (c : Dev nD) : (⟨k0_dev6 c, k0_dev6_lt c⟩ : Dev nD) = left c := by revert c; decide +kernel
/-- The fifth copy, of the query weights handed on, goes to the right neighbour. -/
theorem dev7_eq (c : Dev nD) : (⟨k0_dev7 c, k0_dev7_lt c⟩ : Dev nD) = right c := by revert c; decide +kernel
/-- The sixth copy, of the output weights handed on, goes to the left neighbour. -/
theorem dev8_eq (c : Dev nD) : (⟨k0_dev8 c, k0_dev8_lt c⟩ : Dev nD) = left c := by revert c; decide +kernel

/-- Whether copy `j` goes to the right neighbour. -/
def toRight : Fin 6 → Bool := ![true, true, false, false, true, false]
/-- Where copy `j` of device `c` goes. -/
def peer (j : Fin 6) (c : Dev nD) : Dev nD := if toRight j then right c else left c
/-- Whose copy `j` comes to device `c`. -/
def origin (j : Fin 6) (c : Dev nD) : Dev nD := if toRight j then left c else right c
/-- The peer of a transfer's origin is the device itself. -/
theorem peer_origin (j : Fin 6) (c : Dev nD) : peer j (origin j c) = c := by revert j c; decide
/-- The origin of a transfer's peer is the device itself. -/
theorem origin_peer (j : Fin 6) (c : Dev nD) : origin j (peer j c) = c := by revert j c; decide
/-- Copy `j`'s destinations, as a permutation of the devices. -/
def peerE (j : Fin 6) : Dev nD ≃ Dev nD := ⟨peer j, origin j, origin_peer j, peer_origin j⟩
/-- Going right, as a permutation of the devices. -/
def rightE : Dev nD ≃ Dev nD := ⟨right, left, left_right, right_left⟩
/-- Going left, as a permutation of the devices. -/
def leftE : Dev nD ≃ Dev nD := ⟨left, right, right_left, left_right⟩

/-! ## The cells -/

/-- The barrier's semaphore. -/
abbrev barS : Sem sig := barrier0
/-- A device's barrier semaphore. -/
abbrev barCell (c : Dev nD) : GSem nD τ sig := ((c : Thread nD τ), .reg barS)

/-- Copy `j`'s semaphore: on the sender (`true`) or on the receiver (`false`). -/
def xSem : Bool → Fin 6 → DmaSem sig
  | true => ![6, 9, 7, 10, 8, 11]
  | false => ![13, 17, 14, 18, 15, 19]
/-- A device's semaphore of a transfer, at its sender or at its receiver. -/
abbrev xCell (c : Dev nD) (b : Bool) (j : Fin 6) : GSem nD τ sig := ((c : Thread nD τ), .dma (xSem b j))

/-- Which copy's cell a DMA semaphore is, if one's. -/
def xIdx (s : DmaSem sig) : Option (Bool × Fin 6) :=
  (![none, none, none, none, none, none, some (true, 0), some (true, 2), some (true, 4), some (true, 1), some (true, 3), some (true, 5),
    none, some (false, 0), some (false, 2), some (false, 4), none, some (false, 1), some (false, 3), some (false, 5)] : Fin 20 → _) s
/-- A transfer's semaphore is recognised as that transfer's. -/
theorem xIdx_xSem (b : Bool) (j : Fin 6) : xIdx (xSem b j) = some (b, j) := by revert b j; decide
/-- Two transfers' semaphores differ. -/
theorem xSem_inj {b b' : Bool} {j j' : Fin 6} (h : xSem b j = xSem b' j') : b = b' ∧ j = j' := by
  have := (xIdx_xSem b j).symm.trans ((congrArg xIdx h).trans (xIdx_xSem b' j'))
  simpa using this
/-- A semaphore recognised as a transfer's is that transfer's. -/
theorem xIdx_some {s : DmaSem sig} {p : Bool × Fin 6} (h : xIdx s = some p) : s = xSem p.1 p.2 := by
  revert s p; decide

/-! ## The slots of the two exchange buffers, as the copies address them -/

/-- A slot of the query weights' buffer. -/
abbrev wqV (k : Nat) (h : ∀ a, (![k, 0, 0] : Fin 3 → Nat) a + S1x512x256.size a ≤ S4x512x256.size a) : Memref sig .tc .vmem S512x256 .bf16 :=
  ((Memref.whole cc0_scratch0).slice (Rect.unit (s := S4x512x256) ![k, 0, 0] S1x512x256.size h) (fun _ => rfl)).squeeze S512x256 squeezes_S1x512x256_S512x256
/-- A slot of the output weights' buffer. -/
abbrev woV (k : Nat) (h : ∀ a, (![k, 0, 0] : Fin 3 → Nat) a + S1x256x512.size a ≤ S4x256x512.size a) : Memref sig .tc .vmem S256x512 .bf16 :=
  ((Memref.whole cc0_scratch1).slice (Rect.unit (s := S4x256x512) ![k, 0, 0] S1x256x512.size h) (fun _ => rfl)).squeeze S256x512 squeezes_S1x256x512_S256x512

/-- Slot 0 of the query weights' buffer. -/
abbrev wq0 := wqV 0 inb_S4x512x256_S1x512x256_0_0_0
/-- Slot 1 of the query weights' buffer. -/
abbrev wq1 := wqV 1 inb_S4x512x256_S1x512x256_1_0_0
/-- Slot 2 of the query weights' buffer. -/
abbrev wq2 := wqV 2 inb_S4x512x256_S1x512x256_2_0_0
/-- Slot 3 of the query weights' buffer. -/
abbrev wq3 := wqV 3 inb_S4x512x256_S1x512x256_3_0_0
/-- Slot 0 of the output weights' buffer. -/
abbrev wo0 := woV 0 inb_S4x256x512_S1x256x512_0_0_0
/-- Slot 1 of the output weights' buffer. -/
abbrev wo1 := woV 1 inb_S4x256x512_S1x256x512_1_0_0
/-- Slot 2 of the output weights' buffer. -/
abbrev wo2 := woV 2 inb_S4x256x512_S1x256x512_2_0_0
/-- Slot 3 of the output weights' buffer. -/
abbrev wo3 := woV 3 inb_S4x256x512_S1x256x512_3_0_0

/-- The credit of one copy: every block here has the same number of elements. -/
abbrev N : ℕ := wq1.view.dmaCredit
/-- A transfer counts something. -/
theorem N_pos : 0 < N := View.dmaCredit_pos _ (by decide)

/-- The blocks the devices start with. -/
def WqB (c : Dev nD) : Vec F S512x256 .bf16 := V1 m c main_arg1
/-- A device's own output weights. -/
def WoB (c : Dev nD) : Vec F S256x512 .bf16 := V1 m c main_arg4

section Held
variable {sp : Space} {s : Shape} {e : EltTy}

/-- A memref's buffer with `X` under the memref (and, elsewhere, what the machine started with). -/
def slotC (M : Memref sig .tc sp s e) (c : Dev nD) (X : s.Idx → Elt F e) : Buf (Elt F) (M.view.loc (c : Thread nD τ)) :=
  M.view.write (Elt F) (m (M.view.loc (c : Thread nD τ))) X Finset.univ

/-- The elements under a memref of device `c`, at share `q`, holding `X`. -/
abbrev holds (M : Memref sig .tc sp s e) (c : Dev nD) (q : PosShare TreeShare) (X : s.Idx → Elt F e) : sProp 𝕄 :=
  M.view.loc (c : Thread nD τ) ↦[M.view.set]{q} slotC m M c X

/-- The same, at contents not chosen, whole share. -/
def holdsAny (M : Memref sig .tc sp s e) (c : Dev nD) : sProp 𝕄 :=
  iprop(∃ f, M.view.loc (c : Thread nD τ) ↦[M.view.set]{fullShare} f)
/-- Ownership of a view may be kept in an invariant. -/
instance holdsAny_storable (M : Memref sig .tc sp s e) (c : Dev nD) : BI.Storable (upEmb : UEmb _ 𝕄) (holdsAny (F := F) M c) := by
  unfold holdsAny; infer_instance

/-- A slot's contents read back are what was put there. -/
theorem read_slotC (M : Memref sig .tc sp s e) (c : Dev nD) (X : s.Idx → Elt F e) :
    M.view.read (Elt F) (slotC m M c X) = X := funext fun x => View.read_write_of_mem _ _ (Finset.mem_univ x)

/-- Contents that read the same under a memref hold the same. -/
theorem holds_of_read (M : Memref sig .tc sp s e) (c : Dev nD) (q : PosShare TreeShare) (X : s.Idx → Elt F e)
    (f : Buf (Elt F) (M.view.loc (c : Thread nD τ))) (h : M.view.read (Elt F) f = X) :
    (M.view.loc (c : Thread nD τ) ↦[M.view.set]{q} f : sProp 𝕄) = holds m M c q X := by
  refine pointsTo_congr fun i hi => ?_
  obtain ⟨x, -, rfl⟩ := Finset.mem_map.mp hi
  have hx := congrFun (h.trans (read_slotC m M c X).symm) x
  rw [View.read_apply, View.read_apply] at hx
  exact (cast_bijective _).injective hx

/-- What a copy lands: the source's block, under the destination. -/
theorem landed_eq {sp' : Space} (Ms : Memref sig .tc sp s e) (Md : Memref sig .tc sp' s e) (c c' : Dev nD) (X : s.Idx → Elt F e)
    (fd : Buf (Elt F) (Md.view.loc (c' : Thread nD τ))) :
    (Md.view.loc (c' : Thread nD τ) ↦[Md.view.set]{fullShare} Md.view.write (Elt F) fd (Ms.view.read (Elt F) (slotC m Ms c X)) Finset.univ : sProp 𝕄)
      = holds m Md c' fullShare X :=
  holds_of_read m Md c' fullShare X _ (by rw [read_slotC]; exact funext fun x => View.read_write_of_mem _ _ (Finset.mem_univ x))

end Held

/-! ## The schedule -/

/-- The share of a slot that the first copy out of it borrows. -/
abbrev lendA : PosShare TreeShare := fullShare.right.left
/-- The share of a slot that the second copy out of it borrows. -/
abbrev lendB : PosShare TreeShare := fullShare.right.right

/-- What copy `j`'s cell on the sender gives back: the lent share of the source. -/
def sndPay (c : Dev nD) : Fin 6 → sProp 𝕄
  | 0 => holds m wq0 c lendA (WqB m c)
  | 1 => holds m wo0 c lendA (WoB m c)
  | 2 => holds m wq0 c lendB (WqB m c)
  | 3 => holds m wo0 c lendB (WoB m c)
  | 4 => holds m wq1 c fullShare.right (WqB m (left c))
  | 5 => holds m wo2 c fullShare.right (WoB m (right c))
/-- What copy `j`'s cell on the receiver hands over: the destination at the block that landed. -/
def rcvPay (c : Dev nD) : Fin 6 → sProp 𝕄
  | 0 => holds m wq1 c fullShare (WqB m (left c))
  | 1 => holds m wo1 c fullShare (WoB m (left c))
  | 2 => holds m wq2 c fullShare (WqB m (right c))
  | 3 => holds m wo2 c fullShare (WoB m (right c))
  | 4 => holds m wq3 c fullShare (WqB m (opp c))
  | 5 => holds m wo3 c fullShare (WoB m (opp c))
/-- What a transfer's semaphore hands over: at its receiver the slot filled, at its sender the source back. -/
def xPay (c : Dev nD) : Bool → Fin 6 → sProp 𝕄
  | true => sndPay m c
  | false => rcvPay m c
/-- What the signaller of device `c`'s barrier cell hands over: the destinations on itself of the copies device `c` makes to it. -/
def barPay (c : Dev nD) : Bool → sProp 𝕄
  | true => iprop((holdsAny wq1 (right c) ∗ holdsAny wo1 (right c) ∗ holdsAny wq3 (right c))
      ∗ reached ER (xCell (right c) false 0) 0 ∗ reached ER (xCell (right c) false 1) 0 ∗ reached ER (xCell (right c) false 4) 0)
  | false => iprop((holdsAny wq2 (left c) ∗ holdsAny wo2 (left c) ∗ holdsAny wo3 (left c))
      ∗ reached ER (xCell (left c) false 2) 0 ∗ reached ER (xCell (left c) false 3) 0 ∗ reached ER (xCell (left c) false 5) 0)

/-- The barrier's cells. -/
abbrev IsBar (g : GSem nD τ sig) : Prop := g.1.2 = .tc ∧ g.2 = .reg barS
/-- Whether a cell is one of a copy's. -/
def isX : SemLoc sig → Bool
  | .reg _ => false
  | .dma s => (xIdx s).isSome
/-- The transfers' cells. -/
abbrev IsXfer (g : GSem nD τ sig) : Prop := g.1.2 = .tc ∧ isX g.2 = true

/-- One round: a barrier cell has one duty per neighbour (`true` the right one's), a copy's cell one duty (`false`). -/
def rd : Rounds.Schedule (GSem nD τ sig) Bool 𝕄 where
  duties g r := if r = 0 ∧ IsBar g then Finset.univ else if r = 0 ∧ IsXfer g then {false} else ∅
  unitless _ := False
  amount g _ _ := if g.2 = .reg barS then 1 else N
  payload g _ d := match g.2 with
    | .reg _ => barPay g.1.1 d
    | .dma s => match xIdx s with
      | some p => xPay m g.1.1 p.1 p.2
      | none => iprop(emp)
  amount_pos g _ _ _ := by
    by_cases h : g.2 = .reg barS
    · rw [if_pos h]; exact Nat.one_pos
    · rw [if_neg h]; exact N_pos

/-- What a transfer hands over may be kept in an invariant. -/
instance xPay_storable (c : Dev nD) (b : Bool) (j : Fin 6) : BI.Storable (upEmb : UEmb _ 𝕄) (xPay m c b j) := by
  cases b
  · show BI.Storable upEmb (rcvPay m c j)
    fin_cases j <;> (dsimp only [rcvPay]; infer_instance)
  · show BI.Storable upEmb (sndPay m c j)
    fin_cases j <;> (dsimp only [sndPay]; infer_instance)
/-- What the barrier hands over may be kept in an invariant. -/
instance barPay_storable (c : Dev nD) (d : Bool) : BI.Storable (upEmb : UEmb _ 𝕄) (barPay (F := F) c d) := by
  cases d <;> (dsimp only [barPay]; infer_instance)
/-- What any cell hands over may be kept in an invariant. -/
instance rd_payload_storable (g : GSem nD τ sig) (r : ℕ) (d : Bool) :
    BI.Storable (upEmb : UEmb _ 𝕄) ((rd (F := F) m).payload g r d) := by
  show BI.Storable upEmb (match g.2 with
    | .reg _ => barPay g.1.1 d
    | .dma s => match xIdx s with
      | some p => xPay m g.1.1 p.1 p.2
      | none => iprop(emp))
  (repeat' split) <;> infer_instance

section Sched
variable (c : Dev nD) (b : Bool) (j : Fin 6)

/-- A transfer's semaphore is one of the transfers'. -/
theorem isX_xSem : isX (.dma (xSem b j)) = true := by simp [isX, xIdx_xSem]
/-- A transfer's semaphore is not the barrier's. -/
theorem dma_ne_bar (s : DmaSem sig) : (SemLoc.dma s : SemLoc sig) ≠ .reg barS := fun h => by cases h

/-- The barrier has two signallers. -/
theorem duties_bar : (rd (F := F) m).duties (barCell c) 0 = Finset.univ := by dsimp only [rd]; exact if_pos ⟨rfl, rfl, rfl⟩
/-- A transfer's semaphore has one signaller. -/
theorem duties_x : (rd (F := F) m).duties (xCell c b j) 0 = {false} := by
  dsimp only [rd]; rw [if_neg (fun h => dma_ne_bar _ h.2.2), if_pos ⟨rfl, rfl, isX_xSem b j⟩]
/-- No cell has a second round. -/
theorem duties_later (g : GSem nD τ sig) : ∀ r, 1 ≤ r → (rd (F := F) m).duties g r = ∅ :=
  fun r hr => by dsimp only [rd]; rw [if_neg (fun h => by omega), if_neg (fun h => by omega)]
/-- A barrier signal counts one. -/
theorem amount_bar (d : Bool) : (rd (F := F) m).amount (barCell c) 0 d = 1 := by dsimp only [rd]; exact if_pos rfl
/-- A transfer counts its size. -/
theorem amount_x (d : Bool) : (rd (F := F) m).amount (xCell c b j) 0 d = N := by dsimp only [rd]; exact if_neg (dma_ne_bar _)
/-- The barrier waits for two. -/
theorem expect_bar : (rd (F := F) m).expect (barCell c) 0 = 2 := by
  unfold Schedule.expect Schedule.amountOf; rw [duties_bar, Finset.sum_congr rfl fun d _ => amount_bar m c d]; rfl
/-- A transfer's semaphore waits for its size. -/
theorem expect_x : (rd (F := F) m).expect (xCell c b j) 0 = N := by
  unfold Schedule.expect Schedule.amountOf; rw [duties_x, Finset.sum_singleton, amount_x]
/-- What a barrier signal hands over. -/
theorem payload_bar (d : Bool) : (rd (F := F) m).payload (barCell c) 0 d = barPay c d := rfl
/-- What a transfer hands over. -/
theorem payload_x (d : Bool) : (rd (F := F) m).payload (xCell c b j) 0 d = xPay m c b j := by
  dsimp only [rd]; rw [xIdx_xSem]
/-- What the barrier's wait takes: the payloads of both neighbours. -/
theorem rest_bar : bigSep ((rd (F := F) m).duties (barCell c) 0 \ ∅) (fun d => (rd (F := F) m).payload (barCell c) 0 d)
    = iprop(barPay c false ∗ barPay c true) := by
  rw [Finset.sdiff_empty, duties_bar, bigSep_univ_eq_bigSepL [false, true] (by decide) (by decide)]
  rfl
/-- What a transfer's wait takes. -/
theorem rest_x : bigSep ((rd (F := F) m).duties (xCell c b j) 0 \ ∅) (fun d => (rd (F := F) m).payload (xCell c b j) 0 d) = xPay m c b j := by
  rw [Finset.sdiff_empty, duties_x, bigSep_singleton, payload_x]

end Sched

/-! ## What each core owes at launch; the levels -/

/-- The credits of the copies from number `k` on, in program order: what is still owed before copy `k`. -/
def ow (c : Dev nD) (k : ℕ) : CellTallies nD τ sig Unit :=
  ∑ j ∈ Finset.univ.filter (fun j : Fin 6 => k ≤ j.val), tallyAt (xCell (peer j c) false j) () N
/-- The obligations before a transfer are those after it and its own. -/
theorem ow_step (c : Dev nD) (j : Fin 6) : ow c j.val = ow c (j.val + 1) + tallyAt (xCell (peer j c) false j) () N := by
  unfold ow
  rw [show (Finset.univ.filter fun i : Fin 6 => j.val ≤ i.val) = insert j (Finset.univ.filter fun i : Fin 6 => j.val + 1 ≤ i.val) from by
      revert j; decide,
    Finset.sum_insert (by simp), add_comm]
/-- After the sixth transfer nothing is owed. -/
theorem ow_end (c : Dev nD) : ow c 6 = 0 := by
  unfold ow
  rw [show (Finset.univ.filter fun i : Fin 6 => 6 ≤ i.val) = ∅ from by decide, Finset.sum_empty]

/-- At launch: both neighbours' barrier units, and every copy's credit on its receiver. -/
def O₀ (c : Dev nD) : CellTallies nD τ sig Unit := (ow c 0 + tallyAt (barCell (right c)) () 1) + tallyAt (barCell (left c)) () 1

/-- The levels' names: one for each cell of a core that runs the kernel. -/
def L (g : GSem nD τ sig) : Finset Unit := if g.1.2 = .tc then {()} else ∅
/-- Barrier cells at 1, the receive cells of the first four copies at 2, of the forwarded two at 3, the rest at 0. -/
def lvS : SemLoc sig → ℕ
  | .reg _ => 1
  | .dma s => match xIdx s with
    | some (false, j) => if j.val < 4 then 2 else 3
    | _ => 0
/-- A cell's level. -/
def lv (g : GSem nD τ sig) (_ : Unit) : ℕ := lvS g.2
/-- A cell of another core has no level. -/
theorem L_of_ne (g : GSem nD τ sig) (h : g.1.2 ≠ .tc) : L g = ∅ := if_neg h
/-- A cell of a core that runs the kernel has one level. -/
theorem L_tc (c : Dev nD) (sm : SemLoc sig) : L ((c : Thread nD τ), sm) = {()} := if_pos rfl
/-- The receivers' levels: the first four copies below the two that hand on. -/
theorem lvS_rcv (j : Fin 6) : lvS (.dma (xSem false j)) = if j.val < 4 then 2 else 3 := by revert j; decide

/-- A tally at one cell is positive there alone. -/
theorem tallyAt_pos {g g' : GSem nD τ sig} {n : ℕ} {u : Unit} (h : 0 < tallyAt g () n g' u) : g' = g := by
  rw [tallyAt_apply] at h
  split at h
  · next hg => exact hg.1
  · exact absurd h (Nat.lt_irrefl 0)

/-- What a device owes is owed to the receivers of the transfers still to come. -/
theorem ow_pos {c : Dev nD} {k : ℕ} {g : GSem nD τ sig} {u : Unit} (h : 0 < ow c k g u) :
    ∃ j : Fin 6, k ≤ j.val ∧ g = xCell (peer j c) false j := by
  unfold ow at h
  rw [Finset.sum_apply, Finsupp.finset_sum_apply] at h
  obtain ⟨j, hj, hp⟩ := Finset.exists_ne_zero_of_sum_ne_zero (Nat.pos_iff_ne_zero.mp h)
  exact ⟨j, (Finset.mem_filter.mp hj).2, tallyAt_pos (Nat.pos_of_ne_zero hp)⟩

/-- A wait at a level below every copy still owed. -/
theorem mayWait_ow (c : Dev nD) (sm : SemLoc sig) (k : ℕ) (h : ∀ j : Fin 6, k ≤ j.val → lvS sm < lvS (.dma (xSem false j))) :
    (levAts L lv : sProp 𝕄) ⊢ MayWait (c : Thread nD τ) sm () (ow c k) :=
  MayOwe.of_cut (L := L) (lev := lv) (lvS sm) (fun p hp => by rw [Finset.mem_singleton.mp hp, L_tc]; exact Finset.mem_singleton_self _)
    (fun g u hg => by obtain ⟨j, -, rfl⟩ := ow_pos hg; rw [L_tc]; exact Finset.mem_singleton_self _)
    (fun p hp => by rw [Finset.mem_singleton.mp hp]; exact le_rfl)
    (fun g u hg => by obtain ⟨j, hj, rfl⟩ := ow_pos hg; exact h j hj)

/-! ## The ghost state -/

/-- The copies' cells' indices, and the cells. -/
abbrev XI : Type := Bool × Fin 6
/-- The devices' barrier cells. -/
def barEmb : Dev nD ↪ GSem nD τ sig := ⟨fun c => barCell c, fun _ _ h => congrArg (fun g : GSem nD τ sig => g.1.1) h⟩
/-- The devices' transfer cells. -/
def xEmb : Dev nD × XI ↪ GSem nD τ sig :=
  ⟨fun p => xCell p.1 p.2.1 p.2.2, fun p q h =>
    have hs : SemLoc.dma (xSem p.2.1 p.2.2) = SemLoc.dma (xSem q.2.1 q.2.2) := congrArg Prod.snd h
    have hi := xSem_inj (SemLoc.dma.inj hs)
    Prod.ext (congrArg (fun g : GSem nD τ sig => g.1.1) h) (Prod.ext hi.1 hi.2)⟩
/-- All the barrier cells. -/
abbrev barCells : Finset (GSem nD τ sig) := Finset.univ.map barEmb
/-- All the transfer cells. -/
abbrev xCells : Finset (GSem nD τ sig) := Finset.univ.map xEmb

/-- The records every device may consult: every cell's invariant, and that round 0 of every barrier cell is reached. -/
def records (κ : GSem nD τ sig → ℕ) : sProp 𝕄 :=
  iprop((bigSep (barCells ∪ xCells) fun g => cellInv ER (rd m) (κ g) g) ∗ bigSep barCells fun g => reached ER g 0)
/-- The cells' records may be used again and again. -/
instance records_persistent (κ : GSem nD τ sig → ℕ) : BI.Persistent (records m κ) := by unfold records; infer_instance

/-- The records hold each barrier cell's invariant. -/
theorem inv_bar (κ : GSem nD τ sig → ℕ) (c : Dev nD) : records m κ ⊢ cellInv ER (rd m) (κ (barCell c)) (barCell c) := by
  unfold records
  iintro ⟨H, -⟩
  iapply (show (bigSep (barCells ∪ xCells) fun g => (cellInv ER (rd m) (κ g) g : sProp 𝕄)) ⊢ cellInv ER (rd m) (κ (barCell c)) (barCell c) from
    bigSep_elim (Finset.mem_union_left _ (Finset.mem_map_of_mem barEmb (Finset.mem_univ c)))) $$ H
/-- The records hold each transfer cell's invariant. -/
theorem inv_x (κ : GSem nD τ sig → ℕ) (c : Dev nD) (b : Bool) (j : Fin 6) :
    records m κ ⊢ cellInv ER (rd m) (κ (xCell c b j)) (xCell c b j) := by
  unfold records
  iintro ⟨H, -⟩
  iapply (show (bigSep (barCells ∪ xCells) fun g => (cellInv ER (rd m) (κ g) g : sProp 𝕄)) ⊢ cellInv ER (rd m) (κ (xCell c b j)) (xCell c b j) from
    bigSep_elim (Finset.mem_union_right _ (Finset.mem_map_of_mem xEmb (Finset.mem_univ (c, b, j))))) $$ H
/-- The records say that each barrier cell reached its first round. -/
theorem reached_bar (κ : GSem nD τ sig → ℕ) (c : Dev nD) : records m κ ⊢ reached ER (barCell c) 0 := by
  unfold records
  iintro ⟨-, H⟩
  iapply (show (bigSep barCells fun g => (reached ER g 0 : sProp 𝕄)) ⊢ reached ER (barCell c) 0 from
    bigSep_elim (Finset.mem_map_of_mem barEmb (Finset.mem_univ c))) $$ H

/-- The tokens of the duties device `c` pays. -/
def toksOf (c : Dev nD) : sProp 𝕄 :=
  iprop(dutyTok ER (barCell (right c)) 0 false ∗ dutyTok ER (barCell (left c)) 0 true
    ∗ (bigSep Finset.univ fun j : Fin 6 => dutyTok ER (xCell c true j) 0 false)
    ∗ (bigSep Finset.univ fun j : Fin 6 => dutyTok ER (xCell (peer j c) false j) 0 false))

/-- What device `c` carries from launch to the kernel: the records; its place on its barrier cell; the right to open each
    of its copies' cells; the tokens of the duties it pays. -/
def ghost (κ : GSem nD τ sig → ℕ) (c : Dev nD) : sProp 𝕄 :=
  iprop(records m κ ∗ atPos ER (barCell c) 0 ∅ 0 ∗ (bigSep Finset.univ fun p : XI => openTok ER (xCell c p.1 p.2)) ∗ toksOf c)

/-- The same with the cells open. -/
def opened (κ : GSem nD τ sig → ℕ) (c : Dev nD) : sProp 𝕄 :=
  iprop(records m κ ∗ atPos ER (barCell c) 0 ∅ 0
    ∗ (bigSep Finset.univ fun p : XI => iprop(atPos ER (xCell c p.1 p.2) 0 ∅ 0 ∗ reached ER (xCell c p.1 p.2) 0)) ∗ toksOf c)

/-- The credit device `c` waits with. -/
def credits (c : Dev nD) : sProp 𝕄 :=
  iprop(cred (tallyAt (barCell c) () 2) ∗ bigSep Finset.univ fun j : Fin 6 => cred (tallyAt (xCell c false j) () N))

/-- After its only round a cell gives its counter back, at zero. -/
theorem close (κ : ℕ) (g : GSem nD τ sig) :
    iprop(cellInv ER (rd m) κ g ∗ atPos ER g (0 + 1) ∅ 0) ⊢ (|={Set.univ}=> semVal g 0 : sProp 𝕄) :=
  Rounds.cell_close ER (rd m) (Set.mem_univ κ) id (duties_later m g)

/-- No loop of the kernel needs a variant. -/
abbrev 𝒱₀ : Variants := Variants.none

/-- What the start of copy `j` takes besides its source and its destination. -/
def sendTok (c : Dev nD) (j : Fin 6) : sProp 𝕄 :=
  iprop(dutyTok ER (xCell c true j) 0 false ∗ reached ER (xCell c true j) 0
    ∗ dutyTok ER (xCell (peer j c) false j) 0 false ∗ reached ER (xCell (peer j c) false j) 0)
/-- What a wait on copy `j`'s cell takes. -/
def waitTok (c : Dev nD) (b : Bool) (j : Fin 6) : sProp 𝕄 := iprop(cred (tallyAt (xCell c b j) () N) ∗ atPos ER (xCell c b j) 0 ∅ 0)
/-- The cell of copy `j` after its only round. -/
def spent (c : Dev nD) (b : Bool) (j : Fin 6) : sProp 𝕄 := atPos ER (xCell c b j) (0 + 1) ∅ 0

/-! ## The rule of each kind of step -/

section Steps
variable {α : Type} {Q : α → sProp (MT nD τ sig Unit (Elt F) ℕ UU ℕ)} (κ : GSem nD τ sig → ℕ) (c : Dev nD)

/-- A signal of a neighbour's barrier cell, paying duty `d` with its payload. -/
theorem signal_step {dv c' : Dev nD} (hdv : dv = c') (d : Bool) {O₁ : CellTallies nD τ sig Unit} (O : CellTallies nD τ sig Unit)
    (hO : O₁ = O + tallyAt (barCell c') () 1) {W : Waits sig Unit} {k : PUnit → Prog (TpuEff nD τ sig (Elt F) Λ₀ .tc) α} :
    iprop(records m κ ∗ owes (c : Thread nD τ) O₁ W ∗ dutyTok ER (barCell c') 0 d ∗ barPay c' d
      ∗ (owes (c : Thread nD τ) O W -∗ wp frame (wpE (defs₀ (F := F)) 𝒱₀ c none) Set.univ (k ⟨⟩) Q))
      ⊢ wp frame (wpE (defs₀ (F := F)) 𝒱₀ c none) Set.univ (.op (.semSignal (Dev.tc dv) barS 1) k) Q := by
  subst hdv
  iintro ⟨#HR, HO, Ht, Hp, Hk⟩
  iapply (Rounds.wp_signal 𝒱₀ ER (rd m) (c : Thread nD τ) none (dst := (dv : Thread nD τ)) (sem := barS) (r := 0) (d := d) (κ := κ (barCell dv))
      (by rw [duties_bar]; exact Finset.mem_univ _) (amount_bar m dv d) () O hO) $$ [HO Ht Hp]
  · isplitr; · iapply (inv_bar m κ dv); iexact HR
    isplitl [HO]; · iexact HO
    isplitl [Ht]; · iexact Ht
    isplitl [Hp]; · rw [payload_bar]; iexact Hp
    iapply (reached_bar m κ dv); iexact HR
  iexact Hk

/-- The wait on the own barrier cell: both neighbours' payloads. -/
theorem barrier_step {O : CellTallies nD τ sig Unit} {W : Waits sig Unit}
    (hm : (levAts L lv : sProp 𝕄) ⊢ MayWait (c : Thread nD τ) (.reg barS) () O) {k : PUnit → Prog (TpuEff nD τ sig (Elt F) Λ₀ .tc) α} :
    iprop(records m κ ∗ levAts L lv ∗ cred (tallyAt (barCell c) () 2) ∗ owes (c : Thread nD τ) O W ∗ atPos ER (barCell c) 0 ∅ 0
      ∗ ((∃ W', owes (c : Thread nD τ) O W') ∗ atPos ER (barCell c) (0 + 1) ∅ 0 ∗ barPay c false ∗ barPay c true
          -∗ wp frame (wpE (defs₀ (F := F)) 𝒱₀ c none) Set.univ (k ⟨⟩) Q))
      ⊢ wp frame (wpE (defs₀ (F := F)) 𝒱₀ c none) Set.univ (.op (.semWait barS 2) k) Q := by
  iintro ⟨#HR, #Hlev, Hc, HO, Ha, Hk⟩
  iapply (Rounds.wp_wait_rest_token 𝒱₀ ER (rd m) (c : Thread nD τ) none (κ := κ (barCell c))
      (wpE_semWait_eq 𝒱₀ (c : Thread nD τ) none Set.univ) (Set.mem_univ _) () (O := O) (W := W) (R := 0) (m := 0) (T := ∅)
      ((Nat.zero_add 2).trans (expect_bar m c).symm)) $$ [Hc HO Ha]
  · isplitr; · iapply (inv_bar m κ c); iexact HR
    isplitl [Hc]; · iexact Hc
    isplitl [HO]; · iexact HO
    isplitr; · iapply hm; iexact Hlev
    iexact Ha
  iintro ⟨HO, Ha, -, Hpay⟩
  ihave Hp := (Entails.of_eq (rest_bar m c)) $$ Hpay
  iapply Hk
  isplitl [HO]; · iexists _; iexact HO
  isplitl [Ha]; · iexact Ha
  iexact Hp

/-- The start of copy `j`. -/
theorem send_step (j : Fin 6) {k₀ k₁ : ℕ} (h₀ : k₀ = j.val) (h₁ : k₁ = j.val + 1) {dv : Dev nD} {sS sR : DmaSem sig} {sp sp' : Space} {s : Shape} {e : EltTy}
    {src : Memref sig .tc sp s e} {dst : Memref sig .tc sp' s e}
    (hdv : dv = peer j c) (hsS : sS = xSem true j) (hsR : sR = xSem false j) (hN : dst.view.amount (.dma sR) = N)
    {hsc : (dst : Memref sig (Dev.tc dv : Thread nD τ).2.kind sp' s e).view.ref.isScScratch = false}
    {hsrc : src.view.WordExact} {hdst : (dst : Memref sig (Dev.tc dv : Thread nD τ).2.kind sp' s e).view.WordExact}
    {hsem : DmaTarget.Typed sp (.dma sR) (.remote (Dev.tc dv) dst (.dma sS) hsc)}
    {q : PosShare TreeShare} {fs : Buf (Elt F) (src.view.loc (c : Thread nD τ))}
    (hp₁ : (src.view.loc (c : Thread nD τ) ↦[src.view.set]{q} fs : sProp 𝕄) ⊢ sndPay m c j)
    (hp₂ : ∀ fd : Buf (Elt F) (dst.view.loc (peer j c : Thread nD τ)), (dst.view.loc (peer j c : Thread nD τ) ↦[dst.view.set]{fullShare}
        dst.view.write (Elt F) fd (src.view.read (Elt F) fs) Finset.univ : sProp 𝕄) ⊢ rcvPay m (peer j c) j)
    {W : Waits sig Unit} {k : PUnit → Prog (TpuEff nD τ sig (Elt F) Λ₀ .tc) α} :
    iprop(records m κ ∗ (src.view.loc (c : Thread nD τ) ↦[src.view.set]{q} fs) ∗ holdsAny dst (peer j c)
      ∗ owes (c : Thread nD τ) (ow c k₀) W ∗ sendTok c j
      ∗ (cred (tallyAt (xCell c true j) () N) ∗ owes (c : Thread nD τ) (ow c k₁) W
          -∗ wp frame (wpE (defs₀ (F := F)) 𝒱₀ c none) Set.univ (k ⟨⟩) Q))
      ⊢ wp frame (wpE (defs₀ (F := F)) 𝒱₀ c none) Set.univ
          (.op (.enqueueDma src (.remote (Dev.tc dv) dst (.dma sS) hsc) (.dma sR) hsrc hdst hsem) k) Q := by
  subst hdv hsS hsR h₀ h₁
  unfold holdsAny sendTok
  iintro ⟨#HR, Hs, ⟨%fd, Hd⟩, HO, ⟨Ht₁, #Hr₁, Ht₂, #Hr₂⟩, Hk⟩
  iapply (Rounds.wp_send_pointsTo 𝒱₀ ER (rd m) (c : Thread nD τ) none (c' := (peer j c : Thread nD τ)) (src := src) (dst := dst)
      (sS := .dma (xSem true j)) (sem := .dma (xSem false j)) (q := q) (fs := fs) (κ₁ := κ (xCell c true j)) (κ₂ := κ (xCell (peer j c) false j))
      (r₁ := 0) (r₂ := 0) (d₁ := false) (d₂ := false) (fd := fd)
      (by rw [duties_x]; exact Finset.mem_singleton_self _) (by rw [duties_x]; exact Finset.mem_singleton_self _)
      () () N hN (amount_x m c true j false) (amount_x m (peer j c) false j false) (ow c (j.val + 1)) (ow_step c j) (W := W)
      (by rw [payload_x]; exact hp₁) (by rw [payload_x]; exact hp₂ fd)) $$ [Hs Hd HO Ht₁ Ht₂]
  · isplitr; · iapply (inv_x m κ c true j); iexact HR
    isplitr; · iapply (inv_x m κ (peer j c) false j); iexact HR
    isplitl [Hs]; · iexact Hs
    isplitl [Hd]; · iexact Hd
    isplitl [HO]; · iexact HO
    isplitl [Ht₁]; · iexact Ht₁
    isplitr; · iexact Hr₁
    isplitl [Ht₂]; · iexact Ht₂
    iexact Hr₂
  iexact Hk

/-- The wait on the own cell of copy `j`, on either side. -/
theorem wait_step (b : Bool) (j : Fin 6) {sm : DmaSem sig} {sp sp' : Space} {s : Shape} {e : EltTy}
    {src : Memref sig .tc sp s e} {dst : Memref sig .tc sp' s e}
    (hsm : sm = xSem b j) (hN : dst.view.dmaCredit = N) {P : sProp (MT nD τ sig Unit (Elt F) ℕ UU ℕ)} (hP : xPay m c b j ⊢ P)
    {hsrc : src.view.WordExact} {hdst : dst.view.WordExact} {O : CellTallies nD τ sig Unit} {W : Waits sig Unit}
    (hm : (levAts L lv : sProp 𝕄) ⊢ MayWait (c : Thread nD τ) (.dma (xSem b j)) () O) {k : PUnit → Prog (TpuEff nD τ sig (Elt F) Λ₀ .tc) α} :
    iprop(records m κ ∗ levAts L lv ∗ waitTok c b j ∗ owes (c : Thread nD τ) O W
      ∗ ((∃ W', owes (c : Thread nD τ) O W') ∗ spent c b j ∗ P
          -∗ wp frame (wpE (defs₀ (F := F)) 𝒱₀ c none) Set.univ (k ⟨⟩) Q))
      ⊢ wp frame (wpE (defs₀ (F := F)) 𝒱₀ c none) Set.univ (.op (.waitDma2 sm src dst hsrc hdst) k) Q := by
  subst hsm
  unfold waitTok spent
  iintro ⟨#HR, #Hlev, ⟨Hc, Ha⟩, HO, Hk⟩
  iapply (Rounds.wp_wait_rest_token 𝒱₀ ER (rd m) (c : Thread nD τ) none (κ := κ (xCell c b j))
      (wpE_waitDma2_eq 𝒱₀ (c : Thread nD τ) none Set.univ) (Set.mem_univ _) () (O := O) (W := W) (R := 0) (m := 0) (T := ∅)
      ((Nat.zero_add _).trans (hN.trans (expect_x m c b j).symm))) $$ [Hc HO Ha]
  · isplitr; · iapply (inv_x m κ c b j); iexact HR
    isplitl [Hc]; · rw [hN]; iexact Hc
    isplitl [HO]; · iexact HO
    isplitr; · iapply hm; iexact Hlev
    iexact Ha
  iintro ⟨HO, Ha, -, Hpay⟩
  ihave Hp := (Entails.of_eq (rest_x m c b j)) $$ Hpay
  iapply Hk
  isplitl [HO]; · iexists _; iexact HO
  isplitl [Ha]; · iexact Ha
  iapply hP; iexact Hp

end Steps

end Cert.KernelIdeal.Proto
-- ==== Proof.Slots.lean ====
/-
# The exchange buffers as their four slots, and the blocks as the kernel stores and loads them
-/
module

public import proofs.«01_k».proof.Proof.Protocol
public import Idealize.ShloMosaic.Lib.Ring

@[expose] public section

noncomputable section

namespace Cert.KernelIdeal.Proto

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-- A separating conjunction over four indices, written out. -/
theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ
/-- A separating conjunction over six indices, written out. -/
theorem bigSep_fin6 (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ
/-- A separating conjunction over the transfers' cells, written out. -/
theorem bigSep_XI (Φ : XI → sProp 𝕄) : bigSep Finset.univ Φ
    = iprop(Φ (true, 0) ∗ Φ (true, 1) ∗ Φ (true, 2) ∗ Φ (true, 3) ∗ Φ (true, 4) ∗ Φ (true, 5)
        ∗ Φ (false, 0) ∗ Φ (false, 1) ∗ Φ (false, 2) ∗ Φ (false, 3) ∗ Φ (false, 4) ∗ Φ (false, 5)) :=
  bigSep_univ_eq_bigSepL [(true, 0), (true, 1), (true, 2), (true, 3), (true, 4), (true, 5),
    (false, 0), (false, 1), (false, 2), (false, 3), (false, 4), (false, 5)] (by decide) (by decide) Φ

/-- The elements of the query-weight buffer in slot `k`. -/
def wqI (k : Fin 4) : Finset S4x512x256.Idx := Finset.univ.filter fun i => (i 0).val = k.val
/-- The entries of one slot of the output weights' buffer. -/
def woI (k : Fin 4) : Finset S4x256x512.Idx := Finset.univ.filter fun i => (i 0).val = k.val

/-- A slot's view of the query weights' buffer covers that slot's entries. -/
theorem wqV_set (k : Fin 4) (h : ∀ a, (![k.val, 0, 0] : Fin 3 → Nat) a + S1x512x256.size a ≤ S4x512x256.size a) :
    (wqV k.val h).view.set = wqI k := by
  refine (View.set_reshape (v := _) _).trans ((View.set_slice_whole _ _).trans ?_)
  ext i
  have h1 : (i 1).val < S4x512x256.size 1 := (i 1).isLt
  have h2 : (i 2).val < S4x512x256.size 2 := (i 2).isLt
  have h3 := k.isLt
  rw [wqI, Finset.mem_filter]
  refine Rect.mem_set_unit.trans ⟨fun H => ⟨Finset.mem_univ _, ?_⟩, fun H a => ?_⟩
  · have := H 0
    simp at this; omega
  · have h0 := H.2
    match a with
    | ⟨0, _⟩ => exact ⟨h0.ge, by show (i 0).val < k.val + 1; omega⟩
    | ⟨1, _⟩ => exact ⟨Nat.zero_le _, by show (i 1).val < 0 + _; rw [Nat.zero_add]; exact h1⟩
    | ⟨2, _⟩ => exact ⟨Nat.zero_le _, by show (i 2).val < 0 + _; rw [Nat.zero_add]; exact h2⟩
/-- A slot's view of the output weights' buffer covers that slot's entries. -/
theorem woV_set (k : Fin 4) (h : ∀ a, (![k.val, 0, 0] : Fin 3 → Nat) a + S1x256x512.size a ≤ S4x256x512.size a) :
    (woV k.val h).view.set = woI k := by
  refine (View.set_reshape (v := _) _).trans ((View.set_slice_whole _ _).trans ?_)
  ext i
  have h1 : (i 1).val < S4x256x512.size 1 := (i 1).isLt
  have h2 : (i 2).val < S4x256x512.size 2 := (i 2).isLt
  have h3 := k.isLt
  rw [woI, Finset.mem_filter]
  refine Rect.mem_set_unit.trans ⟨fun H => ⟨Finset.mem_univ _, ?_⟩, fun H a => ?_⟩
  · have := H 0
    simp at this; omega
  · have h0 := H.2
    match a with
    | ⟨0, _⟩ => exact ⟨h0.ge, by show (i 0).val < k.val + 1; omega⟩
    | ⟨1, _⟩ => exact ⟨Nat.zero_le _, by show (i 1).val < 0 + _; rw [Nat.zero_add]; exact h1⟩
    | ⟨2, _⟩ => exact ⟨Nat.zero_le _, by show (i 2).val < 0 + _; rw [Nat.zero_add]; exact h2⟩
/-- The entries of slot 0 of the query weights' buffer. -/
theorem wq0_set : wq0.view.set = wqI 0 := wqV_set 0 _
/-- The entries of slot 1 of the query weights' buffer. -/
theorem wq1_set : wq1.view.set = wqI 1 := wqV_set 1 _
/-- The entries of slot 2 of the query weights' buffer. -/
theorem wq2_set : wq2.view.set = wqI 2 := wqV_set 2 _
/-- The entries of slot 3 of the query weights' buffer. -/
theorem wq3_set : wq3.view.set = wqI 3 := wqV_set 3 _
/-- The entries of slot 0 of the output weights' buffer. -/
theorem wo0_set : wo0.view.set = woI 0 := woV_set 0 _
/-- The entries of slot 1 of the output weights' buffer. -/
theorem wo1_set : wo1.view.set = woI 1 := woV_set 1 _
/-- The entries of slot 2 of the output weights' buffer. -/
theorem wo2_set : wo2.view.set = woI 2 := woV_set 2 _
/-- The entries of slot 3 of the output weights' buffer. -/
theorem wo3_set : wo3.view.set = woI 3 := woV_set 3 _

/-- Two slots of the query weights' buffer share no entry. -/
theorem wqI_disj (k k' : Fin 4) (h : k ≠ k') : Disjoint (wqI k) (wqI k') := by
  rw [Finset.disjoint_left]; intro i hi hi'
  exact h (Fin.ext ((Finset.mem_filter.mp hi).2.symm.trans (Finset.mem_filter.mp hi').2))
/-- Two slots of the output weights' buffer share no entry. -/
theorem woI_disj (k k' : Fin 4) (h : k ≠ k') : Disjoint (woI k) (woI k') := by
  rw [Finset.disjoint_left]; intro i hi hi'
  exact h (Fin.ext ((Finset.mem_filter.mp hi).2.symm.trans (Finset.mem_filter.mp hi').2))
/-- The four slots are the whole buffer of the query weights. -/
theorem wqI_cover : Finset.univ.biUnion wqI = (Finset.univ : Finset S4x512x256.Idx) := by
  ext i; simp only [Finset.mem_biUnion, Finset.mem_univ, true_and, iff_true]
  exact ⟨i 0, Finset.mem_filter.mpr ⟨Finset.mem_univ _, rfl⟩⟩
/-- The four slots are the whole buffer of the output weights. -/
theorem woI_cover : Finset.univ.biUnion woI = (Finset.univ : Finset S4x256x512.Idx) := by
  ext i; simp only [Finset.mem_biUnion, Finset.mem_univ, true_and, iff_true]
  exact ⟨i 0, Finset.mem_filter.mpr ⟨Finset.mem_univ _, rfl⟩⟩

/-- A whole buffer of device `c`, at any contents. -/
abbrev anyBuf (c : Dev nD) (b : Ref sig .tc) : sProp 𝕄 := iprop(∃ f : Buf (Elt F) ((c : Thread nD τ).loc b), (c : Thread nD τ).loc b ↦{fullShare} f)

/-- Owning the query weights' buffer gives its four slots. -/
theorem wq_split (c : Dev nD) : anyBuf (F := F) c cc0_scratch0 ⊢ iprop(holdsAny wq0 c ∗ holdsAny wq1 c ∗ holdsAny wq2 c ∗ holdsAny wq3 c) := by
  unfold holdsAny
  rw [wq0_set, wq1_set, wq2_set, wq3_set]
  iintro ⟨%f, H⟩
  ihave H' := (Entails.of_eq ((Ring.pointsTo_blocks (ℓ := (c : Thread nD τ).loc cc0_scratch0) wqI wqI_disj wqI_cover f).trans (bigSep_fin4 _))) $$ H
  icases H' with ⟨H0, H1, H2, H3⟩
  isplitl [H0]; · iexists f; iexact H0
  isplitl [H1]; · iexists f; iexact H1
  isplitl [H2]; · iexists f; iexact H2
  iexists f; iexact H3
/-- Owning the output weights' buffer gives its four slots. -/
theorem wo_split (c : Dev nD) : anyBuf (F := F) c cc0_scratch1 ⊢ iprop(holdsAny wo0 c ∗ holdsAny wo1 c ∗ holdsAny wo2 c ∗ holdsAny wo3 c) := by
  unfold holdsAny
  rw [wo0_set, wo1_set, wo2_set, wo3_set]
  iintro ⟨%f, H⟩
  ihave H' := (Entails.of_eq ((Ring.pointsTo_blocks (ℓ := (c : Thread nD τ).loc cc0_scratch1) woI woI_disj woI_cover f).trans (bigSep_fin4 _))) $$ H
  icases H' with ⟨H0, H1, H2, H3⟩
  isplitl [H0]; · iexists f; iexact H0
  isplitl [H1]; · iexists f; iexact H1
  isplitl [H2]; · iexists f; iexact H2
  iexists f; iexact H3
/-- The four slots of the query weights give the buffer back. -/
theorem wq_join (m : (ℓ : Loc nD τ sig) → Buf (Elt F) ℓ) (c : Dev nD) : iprop(holdsAny wq0 c ∗ holdsAny wq1 c ∗ holdsAny wq2 c ∗ holdsAny wq3 c) ⊢ anyBuf (F := F) c cc0_scratch0 := by
  unfold holdsAny
  rw [wq0_set, wq1_set, wq2_set, wq3_set]
  iintro H
  iapply (Ring.pointsTo_blocks_join_exists (ℓ := (c : Thread nD τ).loc cc0_scratch0) wqI wqI_disj wqI_cover (q := fullShare) (m ((c : Thread nD τ).loc cc0_scratch0)))
  rw [bigSep_fin4]; iexact H
/-- The four slots of the output weights give the buffer back. -/
theorem wo_join (m : (ℓ : Loc nD τ sig) → Buf (Elt F) ℓ) (c : Dev nD) : iprop(holdsAny wo0 c ∗ holdsAny wo1 c ∗ holdsAny wo2 c ∗ holdsAny wo3 c) ⊢ anyBuf (F := F) c cc0_scratch1 := by
  unfold holdsAny
  rw [wo0_set, wo1_set, wo2_set, wo3_set]
  iintro H
  iapply (Ring.pointsTo_blocks_join_exists (ℓ := (c : Thread nD τ).loc cc0_scratch1) woI woI_disj woI_cover (q := fullShare) (m ((c : Thread nD τ).loc cc0_scratch1)))
  rw [bigSep_fin4]; iexact H

end Cert.KernelIdeal.Proto
-- ==== Proof.Values.lean ====
/-
# What the kernel computes, named: the heads of a hop, a hop's contribution, the result
-/
module

public import proofs.«01_k».proof.Proof.Slots
public import Idealize.ShloMosaic.Lib.ValueLayout

@[expose] public section

noncomputable section

namespace Cert.KernelIdeal.Proto

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F] [Named F]

local notation "𝕄" => MT nD τ sig Unit (Elt F) ℕ UU ℕ

/-! ## Blocks in and out of the slots -/

/-- A block as the slot's three-dimensional rectangle shows it. -/
abbrev up1 (w : Vec F S512x256 .bf16) : Vec F S1x512x256 .bf16 := shapeCast S1x512x256 w shapeCasts_S512x256_S1x512x256
/-- The output weights in the shape of a slot. -/
abbrev up2 (w : Vec F S256x512 .bf16) : Vec F S1x256x512 .bf16 := shapeCast S1x256x512 w shapeCasts_S256x512_S1x256x512

section Slot
variable (m : (ℓ : Loc nD τ sig) → Buf (Elt F) ℓ) (c : Dev nD)

/-- Slot `k`, read after the block was stored through its rectangle: the block. -/
theorem wqV_read_store (k : Nat) (h : ∀ a, (![k, 0, 0] : Fin 3 → Nat) a + S1x512x256.size a ≤ S4x512x256.size a)
    (f : Vec F S4x512x256 .bf16) (w : Vec F S512x256 .bf16) :
    (wqV k h).view.read (Elt F) (View.write (Elt F) ((Memref.whole cc0_scratch0).access (Rect.unit (s := S4x512x256) ![k, 0, 0] S1x512x256.size h)) f
      (k0_pay1 w) Finset.univ) = w := by
  have e : k0_pay1 w = up1 w := by unfold k0_pay1 up1; rw [shapeCast_self]
  rw [e]
  refine Eq.trans (b := shapeCast S512x256 (up1 w) shapeCasts_S1x512x256_S512x256) ?_ ?_
  · funext y
    exact View.read_write_of_mem (v := (Memref.whole cc0_scratch0).access (Rect.unit (s := S4x512x256) ![k, 0, 0] S1x512x256.size h)) f (up1 w) (Finset.mem_univ _)
  · exact shapeCast_shapeCast _ _ _
/-- A slot of the output weights read after a store into it holds what was stored. -/
theorem woV_read_store (k : Nat) (h : ∀ a, (![k, 0, 0] : Fin 3 → Nat) a + S1x256x512.size a ≤ S4x256x512.size a)
    (f : Vec F S4x256x512 .bf16) (w : Vec F S256x512 .bf16) :
    (woV k h).view.read (Elt F) (View.write (Elt F) ((Memref.whole cc0_scratch1).access (Rect.unit (s := S4x256x512) ![k, 0, 0] S1x256x512.size h)) f
      (k0_pay2 w) Finset.univ) = w := by
  have e : k0_pay2 w = up2 w := by unfold k0_pay2 up2; rw [shapeCast_self]
  rw [e]
  refine Eq.trans (b := shapeCast S256x512 (up2 w) shapeCasts_S1x256x512_S256x512) ?_ ?_
  · funext y
    exact View.read_write_of_mem (v := (Memref.whole cc0_scratch1).access (Rect.unit (s := S4x256x512) ![k, 0, 0] S1x256x512.size h)) f (up2 w) (Finset.mem_univ _)
  · exact shapeCast_shapeCast _ _ _

/-- A load of slot `k`'s rectangle, the slot holding `w`. -/
theorem wqV_load (k : Nat) (h : ∀ a, (![k, 0, 0] : Fin 3 → Nat) a + S1x512x256.size a ≤ S4x512x256.size a) (w : Vec F S512x256 .bf16) :
    View.readAt (Elt F) (Memref.whole cc0_scratch0).view (Rect.unit (s := S4x512x256) ![k, 0, 0] S1x512x256.size h).toLoadRect (slotC m (wqV k h) c w) = up1 w := by
  have e := read_slotC m (wqV k h) c w
  funext z
  have e' := congrFun e ((Shape.reshapeEquiv (shapeCasts_S512x256_S1x512x256 : S1x512x256.numel = S512x256.numel)) z)
  refine Eq.trans ?_ e'
  have hz : (Shape.reshapeEquiv (shapeCasts_S1x512x256_S512x256 : S512x256.numel = S1x512x256.numel))
      ((Shape.reshapeEquiv (shapeCasts_S512x256_S1x512x256 : S1x512x256.numel = S512x256.numel)) z) = z := by
    apply Shape.reshapeEquiv_eq_of_rowMajor; rw [Shape.rowMajor_reshapeEquiv]
  show View.readAt (Elt F) (Memref.whole cc0_scratch0).view (Rect.unit (s := S4x512x256) ![k, 0, 0] S1x512x256.size h).toLoadRect (slotC m (wqV k h) c w) z
    = View.readAt (Elt F) (Memref.whole cc0_scratch0).view (Rect.unit (s := S4x512x256) ![k, 0, 0] S1x512x256.size h).toLoadRect (slotC m (wqV k h) c w) _
  exact congrArg _ hz.symm
/-- A load of a slot of the output weights reads that slot. -/
theorem woV_load (k : Nat) (h : ∀ a, (![k, 0, 0] : Fin 3 → Nat) a + S1x256x512.size a ≤ S4x256x512.size a) (w : Vec F S256x512 .bf16) :
    View.readAt (Elt F) (Memref.whole cc0_scratch1).view (Rect.unit (s := S4x256x512) ![k, 0, 0] S1x256x512.size h).toLoadRect (slotC m (woV k h) c w) = up2 w := by
  have e := read_slotC m (woV k h) c w
  funext z
  have e' := congrFun e ((Shape.reshapeEquiv (shapeCasts_S256x512_S1x256x512 : S1x256x512.numel = S256x512.numel)) z)
  refine Eq.trans ?_ e'
  have hz : (Shape.reshapeEquiv (shapeCasts_S1x256x512_S256x512 : S256x512.numel = S1x256x512.numel))
      ((Shape.reshapeEquiv (shapeCasts_S256x512_S1x256x512 : S1x256x512.numel = S256x512.numel)) z) = z := by
    apply Shape.reshapeEquiv_eq_of_rowMajor; rw [Shape.rowMajor_reshapeEquiv]
  show View.readAt (Elt F) (Memref.whole cc0_scratch1).view (Rect.unit (s := S4x256x512) ![k, 0, 0] S1x256x512.size h).toLoadRect (slotC m (woV k h) c w) z
    = View.readAt (Elt F) (Memref.whole cc0_scratch1).view (Rect.unit (s := S4x256x512) ![k, 0, 0] S1x256x512.size h).toLoadRect (slotC m (woV k h) c w) _
  exact congrArg _ hz.symm

end Slot

/-! ## Whole-buffer loads and stores -/

/-- The two offsets of a whole access are zero. -/
theorem z2 : (![0, 0] : Fin 2 → Nat) = fun _ => 0 := by decide
/-- The three offsets of a whole access are zero. -/
theorem z3 : (![0, 0, 0] : Fin 3 → Nat) = fun _ => 0 := by decide
/-- The load of `x` reads all of it. -/
theorem load_x (h) (f : Vec F S2x128x512 .bf16) : View.readAt (Elt F) (Memref.whole cc0_stg0_0).view (Rect.unit (s := S2x128x512) ![0, 0, 0] S2x128x512.size h).toLoadRect f = f :=
  Memref.readAt_unit_zero (Elt F) cc0_stg0_0 z3 h f
/-- The load of the own query weights reads all of them. -/
theorem load_wq (h) (f : Vec F S512x256 .bf16) : View.readAt (Elt F) (Memref.whole cc0_stg1_0).view (Rect.unit (s := S512x256) ![0, 0] S512x256.size h).toLoadRect f = f :=
  Memref.readAt_unit_zero (Elt F) cc0_stg1_0 z2 h f
/-- The load of the own output weights reads all of them. -/
theorem load_wo (h) (f : Vec F S256x512 .bf16) : View.readAt (Elt F) (Memref.whole cc0_stg4_0).view (Rect.unit (s := S256x512) ![0, 0] S256x512.size h).toLoadRect f = f :=
  Memref.readAt_unit_zero (Elt F) cc0_stg4_0 z2 h f
/-- The load of the rows reads all of them. -/
theorem load_x2 (h) (f : Vec F S256x512 .bf16) : View.readAt (Elt F) (Memref.whole cc0_scratch2).view (Rect.unit (s := S256x512) ![0, 0] S256x512.size h).toLoadRect f = f :=
  Memref.readAt_unit_zero (Elt F) cc0_scratch2 z2 h f
/-- The load of the contexts reads all of them. -/
theorem load_ctx (h) (f : Vec F S256x256 .bf16) : View.readAt (Elt F) (Memref.whole cc0_scratch3).view (Rect.unit (s := S256x256) ![0, 0] S256x256.size h).toLoadRect f = f :=
  Memref.readAt_unit_zero (Elt F) cc0_scratch3 z2 h f
/-- The store of the rows replaces all of them. -/
theorem store_x2 (h) (f p : Vec F S256x512 .bf16) : (Memref.whole cc0_scratch2).view.writes (Elt F) f [⟨Rect.unit (s := S256x512) ![0, 0] S256x512.size h, p⟩] = p :=
  Memref.write_access_unit_zero_univ (Elt F) cc0_scratch2 z2 h f p
/-- The store of the result replaces all of it. -/
theorem store_out (h) (f p : Vec F S2x128x512 .f32) : (Memref.whole cc0_stg5_0).view.writes (Elt F) f [⟨Rect.unit (s := S2x128x512) ![0, 0, 0] S2x128x512.size h, p⟩] = p :=
  Memref.write_access_unit_zero_univ (Elt F) cc0_stg5_0 z3 h f p

/-! ## One hop -/

/-- The key or value rows of head `b` of the group at offset `a` of device `c`: one head of both of the device's batches. -/
def blk (c : Dev nD) (a b : Fin 4) (X : Vec F S16x2x128x64 .bf16) : Vec F S1x2x128x64 .bf16 :=
  fun z => X ((Rect.unit (s := S16x2x128x64) (k0_off1 c (BitVec.ofNat 32 a.val) (BitVec.ofNat 32 b.val)) S1x2x128x64.size (k0_off1_inb c a b)).toLoadRect.idx z)

/-- A load of a head's keys reads that head's block. -/
theorem load_k (c : Dev nD) (a b : Fin 4) (u v : BitVec 32) (hu : u = BitVec.ofNat 32 a.val) (hv : v = BitVec.ofNat 32 b.val) (h) (X : Vec F S16x2x128x64 .bf16) :
    View.readAt (Elt F) (Memref.whole cc0_stg2_0).view (Rect.unit (s := S16x2x128x64) (k0_off1 c u v) S1x2x128x64.size h).toLoadRect X = blk c a b X := by
  subst hu hv; rfl
/-- A load of a head's values reads that head's block. -/
theorem load_v (c : Dev nD) (a b : Fin 4) (u v : BitVec 32) (hu : u = BitVec.ofNat 32 a.val) (hv : v = BitVec.ofNat 32 b.val) (h) (X : Vec F S16x2x128x64 .bf16) :
    View.readAt (Elt F) (Memref.whole cc0_stg3_0).view (Rect.unit (s := S16x2x128x64) (k0_off1 c u v) S1x2x128x64.size h).toLoadRect X = blk c a b X := by
  subst hu hv; rfl

/-- The additive bias: zero where row and column are of one batch and the row's block is not before the column's. -/
def biasV : FVec F S256x256 .f32 :=
  k0_pay10 (F := F) (iota .tc S256x256 32 [0] iota_S256x256_d0_w32)
    (k0_pay8 (k0_pay4 (iota .tc S256x256 32 [0] iota_S256x256_d0_w32)) (k0_pay5 (iota .tc S256x256 32 [1] iota_S256x256_d1_w32))
      (k0_pay6 (iota .tc S256x256 32 [1] iota_S256x256_d1_w32)) k0_pay7)
    (k0_pay9 (iota .tc S256x256 32 [1] iota_S256x256_d1_w32)) 128#32 (Scalar.cmpi .eq 128#32 0#32) 1#32

/-- The device's queries for one block of the query weights. -/
abbrev qV (x : Vec F S256x512 .bf16) (w : Vec F S512x256 .bf16) : FVec F S256x256 .bf16 := k0_pay11 x (up1 w)
/-- The queries of head `r` of the group. -/
def qcol (q : FVec F S256x256 .bf16) : Fin 4 → FVec F S256x64 .bf16
  | 0 => extractStridedSlice S256x64 ![0, 0] q slices_S256x256_o0_0_S256x64
  | 1 => extractStridedSlice S256x64 ![0, 64] q slices_S256x256_o0_64_S256x64
  | 2 => extractStridedSlice S256x64 ![0, 128] q slices_S256x256_o0_128_S256x64
  | 3 => extractStridedSlice S256x64 ![0, 192] q slices_S256x256_o0_192_S256x64
/-- One head's attention output. -/
def headV (b : FVec F S256x256 .f32) (q : FVec F S256x64 .bf16) (K V : Vec F S1x2x128x64 .bf16) : FVec F S256x64 .bf16 := k0_pay31 b q K V
/-- The four heads of the group at offset `a`. -/
def heads (c : Dev nD) (a : Fin 4) (b : FVec F S256x256 .f32) (q : FVec F S256x256 .bf16) (K V : Vec F S16x2x128x64 .bf16) : Fin 4 → FVec F S256x64 .bf16 :=
  fun r => headV b (qcol q r) (blk c a r K) (blk c a r V)
/-- Four heads side by side. -/
def ctxV (P : Fin 4 → FVec F S256x64 .bf16) : FVec F S256x256 .bf16 := fun i =>
  have h1 : (i 1).val < 256 := (i 1).isLt
  P ⟨(i 1).val / 64, by omega⟩ (ix2 (i 0) (⟨(i 1).val % 64, Nat.mod_lt _ (by decide)⟩ : Fin 64))

/-- The columns of the first `k` heads are in place. -/
def Cols (k : ℕ) (P : Fin 4 → FVec F S256x64 .bf16) (g : Vec F S256x256 .bf16) : Prop := ∀ i : S256x256.Idx, (i 1).val < 64 * k → g i = ctxV P i
/-- Before the first head no column of the contexts is settled. -/
theorem cols_zero (P : Fin 4 → FVec F S256x64 .bf16) (g : Vec F S256x256 .bf16) : Cols 0 P g := fun i h => absurd h (Nat.not_lt_zero _)
/-- After the fourth head the contexts are settled. -/
theorem cols_four {P : Fin 4 → FVec F S256x64 .bf16} {g : Vec F S256x256 .bf16} (h : Cols 4 P g) : g = ctxV P :=
  funext fun i => h i (i 1).isLt
/-- A head's store settles its 64 columns. -/
theorem cols_store {k o : ℕ} {P : Fin 4 → FVec F S256x64 .bf16} {g : Vec F S256x256 .bf16} (hg : Cols k P g) (hk : k < 4) (ho : o = 64 * k)
    (h : ∀ a, (![0, o] : Fin 2 → Nat) a + S256x64.size a ≤ S256x256.size a) (p : FVec F S256x64 .bf16) (hp : p = P ⟨k, hk⟩) :
    Cols (k + 1) P ((Memref.whole cc0_scratch3).view.writes (Elt F) g [⟨Rect.unit (s := S256x256) ![0, o] S256x64.size h, p⟩]) := by
  subst hp ho
  intro i hi
  have h1 : (i 1).val < 256 := (i 1).isLt
  by_cases hlt : (i 1).val < 64 * k
  · refine Eq.trans ?_ (hg i hlt)
    exact View.read_writes_cons_miss_of_axis (Memref.whole cc0_scratch3).view g ⟨Rect.unit (s := S256x256) ![0, 64 * k] S256x64.size h, P ⟨k, hk⟩⟩ [] i 1 (64 * k) 64 rfl rfl rfl (.inl hlt)
  · have hd : (i 1).val / 64 = k := by omega
    refine (View.read_writes_cons_hit_of_coords (Memref.whole cc0_scratch3).view g (Rect.unit (s := S256x256) ![0, 64 * k] S256x64.size h) (P ⟨k, hk⟩) []
      (ix2 (i 0) (⟨(i 1).val % 64, Nat.mod_lt _ (by decide)⟩ : Fin 64)) i fun a => ?_).trans ?_
    · match a with
      | ⟨0, _⟩ => show (i 0).val = 0 + 1 * (i 0).val; omega
      | ⟨1, _⟩ => show (i 1).val = 64 * k + 1 * ((i 1).val % 64); omega
    · show P ⟨k, hk⟩ _ = P ⟨(i 1).val / 64, _⟩ _
      rw [show (⟨k, hk⟩ : Fin 4) = ⟨(i 1).val / 64, by omega⟩ from Fin.ext hd.symm]

/-- The context of a hop. -/
def hopC (c : Dev nD) (a : Fin 4) (x : Vec F S256x512 .bf16) (w : Vec F S512x256 .bf16) (K V : Vec F S16x2x128x64 .bf16) : FVec F S256x256 .bf16 :=
  ctxV (heads c a biasV (qV x w) K V)

/-- The result of device `c`: the four hops' contributions, added in the order of the hops; the hop's weights are the own,
    the left neighbour's, the right neighbour's, the opposite device's. -/
def outV (c : Dev nD) (X : Dev nD → Vec F S2x128x512 .bf16) (Wq : Dev nD → Vec F S512x256 .bf16) (Wo : Dev nD → Vec F S256x512 .bf16)
    (K V : Vec F S16x2x128x64 .bf16) : FVec F S2x128x512 .f32 :=
  k0_pay47 (k0_pay38 (k0_pay28 (k0_pay18 (hopC c 0 (k0_pay3 (X c)) (Wq c) K V) (up2 (Wo c)))
      (hopC c 3 (k0_pay3 (X c)) (Wq (left c)) K V) (up2 (Wo (left c))))
      (hopC c 1 (k0_pay3 (X c)) (Wq (right c)) K V) (up2 (Wo (right c))))
    (hopC c 2 (k0_pay3 (X c)) (Wq (opp c)) K V) (up2 (Wo (opp c)))

end Cert.KernelIdeal.Proto
-- ==== Proof.Body.lean ====
module

public import proofs.«01_k».proof.Proof.Values

@[expose] public section

noncomputable section

namespace Cert.KernelIdeal.Proto

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ)

open Idealize.ShloMosaic.ValueIdx

/-! ## The semaphores, as the body addresses them -/

/-- A sending semaphore of the query weights. -/
abbrev sQs (k : Nat) (h : ∀ a, (![k] : Fin 1 → Nat) a + S1.size a ≤ S3.size a) : DmaSem sig := ((cc0_scratch4.slice (Rect.unit (s := S3) ![k] S1.size h)).squeeze S_ squeezes_S1_S_).sem
/-- A sending semaphore of the output weights. -/
abbrev sOs (k : Nat) (h : ∀ a, (![k] : Fin 1 → Nat) a + S1.size a ≤ S3.size a) : DmaSem sig := ((cc0_scratch5.slice (Rect.unit (s := S3) ![k] S1.size h)).squeeze S_ squeezes_S1_S_).sem
/-- A receiving semaphore of the query weights. -/
abbrev sQr (k : Nat) (h : ∀ a, (![k] : Fin 1 → Nat) a + S1.size a ≤ S4.size a) : DmaSem sig := ((cc0_scratch6.slice (Rect.unit (s := S4) ![k] S1.size h)).squeeze S_ squeezes_S1_S_).sem
/-- A receiving semaphore of the output weights. -/
abbrev sOr (k : Nat) (h : ∀ a, (![k] : Fin 1 → Nat) a + S1.size a ≤ S4.size a) : DmaSem sig := ((cc0_scratch7.slice (Rect.unit (s := S4) ![k] S1.size h)).squeeze S_ squeezes_S1_S_).sem
/-- It is the sending semaphore of transfer 0. -/
theorem sQs0 : sQs 0 inb_S3_S1_0 = xSem true 0 := by decide
/-- It is the sending semaphore of transfer 2. -/
theorem sQs1 : sQs 1 inb_S3_S1_1 = xSem true 2 := by decide
/-- It is the sending semaphore of transfer 4. -/
theorem sQs2 : sQs 2 inb_S3_S1_2 = xSem true 4 := by decide
/-- It is the sending semaphore of transfer 1. -/
theorem sOs0 : sOs 0 inb_S3_S1_0 = xSem true 1 := by decide
/-- It is the sending semaphore of transfer 3. -/
theorem sOs1 : sOs 1 inb_S3_S1_1 = xSem true 3 := by decide
/-- It is the sending semaphore of transfer 5. -/
theorem sOs2 : sOs 2 inb_S3_S1_2 = xSem true 5 := by decide
/-- It is the receiving semaphore of transfer 0. -/
theorem sQr1 : sQr 1 inb_S4_S1_1 = xSem false 0 := by decide
/-- It is the receiving semaphore of transfer 2. -/
theorem sQr2 : sQr 2 inb_S4_S1_2 = xSem false 2 := by decide
/-- It is the receiving semaphore of transfer 4. -/
theorem sQr3 : sQr 3 inb_S4_S1_3 = xSem false 4 := by decide
/-- It is the receiving semaphore of transfer 1. -/
theorem sOr1 : sOr 1 inb_S4_S1_1 = xSem false 1 := by decide
/-- It is the receiving semaphore of transfer 3. -/
theorem sOr2 : sOr 2 inb_S4_S1_2 = xSem false 3 := by decide
/-- It is the receiving semaphore of transfer 5. -/
theorem sOr3 : sOr 3 inb_S4_S1_3 = xSem false 5 := by decide
/-- What a copy of the query weights signals. -/
theorem wq_amount (k h) (s : DmaSem sig) : (wqV k h).view.amount (.dma s) = N := rfl
/-- What a copy of the output weights signals. -/
theorem wo_amount (k h) (s : DmaSem sig) : (woV k h).view.amount (.dma s) = N := rfl
/-- The size of a copy of the query weights. -/
theorem wq_credit (k h) : (wqV k h).view.dmaCredit = N := rfl
/-- The size of a copy of the output weights. -/
theorem wo_credit (k h) : (woV k h).view.dmaCredit = N := rfl

/-! ## What each copy gives back and lands -/

section Pays
variable (m : (ℓ : Loc nD τ sig) → Buf (Elt F) ℓ) (c : Dev nD)

/-- The opposite of the right neighbour is the left one. -/
theorem opp_right (c : Dev nD) : opp (right c) = left c := by revert c; decide
/-- The opposite of the left neighbour is the right one. -/
theorem opp_left (c : Dev nD) : opp (left c) = right c := by revert c; decide

/-- Transfer 0 landed fills its peer's slot with the weights it carries. -/
theorem land0 (fd : Buf (Elt F) (wq1.view.loc (peer 0 c : Thread nD τ))) : (wq1.view.loc (peer 0 c : Thread nD τ) ↦[wq1.view.set]{fullShare}
    wq1.view.write (Elt F) fd (wq0.view.read (Elt F) (slotC m wq0 c (WqB m c))) Finset.univ : sProp 𝕄) ⊢ rcvPay m (peer 0 c) 0 := by
  show _ ⊢ holds m wq1 (right c) fullShare (WqB m (left (right c)))
  rw [left_right]; exact Entails.of_eq (landed_eq m wq0 wq1 c (right c) (WqB m c) fd)
/-- Transfer 1 landed fills its peer's slot with the weights it carries. -/
theorem land1 (fd : Buf (Elt F) (wo1.view.loc (peer 1 c : Thread nD τ))) : (wo1.view.loc (peer 1 c : Thread nD τ) ↦[wo1.view.set]{fullShare}
    wo1.view.write (Elt F) fd (wo0.view.read (Elt F) (slotC m wo0 c (WoB m c))) Finset.univ : sProp 𝕄) ⊢ rcvPay m (peer 1 c) 1 := by
  show _ ⊢ holds m wo1 (right c) fullShare (WoB m (left (right c)))
  rw [left_right]; exact Entails.of_eq (landed_eq m wo0 wo1 c (right c) (WoB m c) fd)
/-- Transfer 2 landed fills its peer's slot with the weights it carries. -/
theorem land2 (fd : Buf (Elt F) (wq2.view.loc (peer 2 c : Thread nD τ))) : (wq2.view.loc (peer 2 c : Thread nD τ) ↦[wq2.view.set]{fullShare}
    wq2.view.write (Elt F) fd (wq0.view.read (Elt F) (slotC m wq0 c (WqB m c))) Finset.univ : sProp 𝕄) ⊢ rcvPay m (peer 2 c) 2 := by
  show _ ⊢ holds m wq2 (left c) fullShare (WqB m (right (left c)))
  rw [right_left]; exact Entails.of_eq (landed_eq m wq0 wq2 c (left c) (WqB m c) fd)
/-- Transfer 3 landed fills its peer's slot with the weights it carries. -/
theorem land3 (fd : Buf (Elt F) (wo2.view.loc (peer 3 c : Thread nD τ))) : (wo2.view.loc (peer 3 c : Thread nD τ) ↦[wo2.view.set]{fullShare}
    wo2.view.write (Elt F) fd (wo0.view.read (Elt F) (slotC m wo0 c (WoB m c))) Finset.univ : sProp 𝕄) ⊢ rcvPay m (peer 3 c) 3 := by
  show _ ⊢ holds m wo2 (left c) fullShare (WoB m (right (left c)))
  rw [right_left]; exact Entails.of_eq (landed_eq m wo0 wo2 c (left c) (WoB m c) fd)
/-- Transfer 4 landed fills its peer's slot with the weights it carries. -/
theorem land4 (fd : Buf (Elt F) (wq3.view.loc (peer 4 c : Thread nD τ))) : (wq3.view.loc (peer 4 c : Thread nD τ) ↦[wq3.view.set]{fullShare}
    wq3.view.write (Elt F) fd (wq1.view.read (Elt F) (slotC m wq1 c (WqB m (left c)))) Finset.univ : sProp 𝕄) ⊢ rcvPay m (peer 4 c) 4 := by
  show _ ⊢ holds m wq3 (right c) fullShare (WqB m (opp (right c)))
  rw [opp_right]; exact Entails.of_eq (landed_eq m wq1 wq3 c (right c) (WqB m (left c)) fd)
/-- Transfer 5 landed fills its peer's slot with the weights it carries. -/
theorem land5 (fd : Buf (Elt F) (wo3.view.loc (peer 5 c : Thread nD τ))) : (wo3.view.loc (peer 5 c : Thread nD τ) ↦[wo3.view.set]{fullShare}
    wo3.view.write (Elt F) fd (wo2.view.read (Elt F) (slotC m wo2 c (WoB m (right c)))) Finset.univ : sProp 𝕄) ⊢ rcvPay m (peer 5 c) 5 := by
  show _ ⊢ holds m wo3 (left c) fullShare (WoB m (opp (left c)))
  rw [opp_left]; exact Entails.of_eq (landed_eq m wo2 wo3 c (left c) (WoB m (right c)) fd)

end Pays

/-- A whole buffer of device `c` at `X`. -/
abbrev pt (c : Dev nD) (b : Ref sig .tc) (X : b.ty.Contents (Elt F)) : sProp 𝕄 := (Memref.whole b).view.loc (c : Thread nD τ) ↦{fullShare} X

/-- Owning a view is owning its entries at some contents. -/
theorem holdsAny_ex {sp : Space} {s : Shape} {e : EltTy} (M : Memref sig .tc sp s e) (c : Dev nD) :
    holdsAny (F := F) M c ⊢ iprop(∃ f, M.view.loc (c : Thread nD τ) ↦[M.view.set]{fullShare} f) := Entails.refl

set_option maxHeartbeats 1000000 in
/-- The barrier: both neighbours signalled with this device's receive slots, both neighbours' slots received. -/
theorem part1_run (κ : GSem nD τ sig → ℕ) (c : Dev nD) (W : Waits sig Unit)
    (Q : (Σ' (d0 : Dev nD) (v2 : BitVec 32) (v14 : BitVec 32), BitVec 32) → sProp (MT nD τ sig Unit (Elt F) ℕ UU ℕ)) :
    iprop(records m κ
      ∗ levAts L lv
      ∗ cred (tallyAt (barCell c) () 2)
      ∗ owes (c : Thread nD τ) (O₀ c) W
      ∗ atPos ER (barCell c) 0 ∅ 0
      ∗ dutyTok ER (barCell (left c)) 0 true
      ∗ barPay (left c) true
      ∗ dutyTok ER (barCell (right c)) 0 false
      ∗ barPay (right c) false
      ∗ (∀ v2 v14 v25, (∃ W', owes (c : Thread nD τ) (ow c 0) W') ∗ atPos ER (barCell c) (0 + 1) ∅ 0 ∗ barPay c false ∗ barPay c true -∗ Q ⟨c, v2, v14, v25⟩))
      ⊢ wp frame (wpE (defs₀ (F := F)) 𝒱₀ c none) Set.univ (k0_part1 (F := F) (Memref.whole cc0_stg0_0) (hstage0_0 0) (Memref.whole cc0_stg1_0) (hstage0_1 0) (Memref.whole cc0_stg2_0) (hstage0_2 0) (Memref.whole cc0_stg3_0) (hstage0_3 0) (Memref.whole cc0_stg4_0) (hstage0_4 0) (Memref.whole cc0_stg5_0) (hstage0_5 0) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 ) Q := by
  rw [k0_part1_eq_skeleton]; unfold k0_part1_skel
  simp only [semSignalWord, semWaitWord, Prog.lift, Prog.bind_op, Prog.bind_ret, Prog.pure_eq_ret, Prog.bind_assoc, wp_deviceId]
  iintro ⟨#HR, #Hlev, Hc, HO, Ha, Ht₁, Hp₁, Ht₂, Hp₂, Hk⟩
  iapply (signal_step m κ c (dev1_eq c) true _ rfl)
  isplitr; · iexact HR
  isplitl [HO]; · iexact HO
  isplitl [Ht₁]; · iexact Ht₁
  isplitl [Hp₁]; · iexact Hp₁
  iintro HO
  iapply (signal_step m κ c (dev2_eq c) false _ rfl)
  isplitr; · iexact HR
  isplitl [HO]; · iexact HO
  isplitl [Ht₂]; · iexact Ht₂
  isplitl [Hp₂]; · iexact Hp₂
  iintro HO
  iapply (barrier_step m κ c (mayWait_ow c (.reg barS) 0 (by decide)))
  isplitr; · iexact HR
  isplitr; · iexact Hlev
  isplitl [Hc]; · iexact Hc
  isplitl [HO]; · iexact HO
  isplitl [Ha]; · iexact Ha
  iintro H
  rw [wp_ret]; imodintro
  iapply Hk; iexact H

set_option maxHeartbeats 1000000 in
/-- The own blocks and tokens into the scratch, and copy 0 started. -/
theorem part2_run (κ : GSem nD τ sig → ℕ) (c : Dev nD) (v25 : BitVec 32) (W : Waits sig Unit) (x : Vec F S2x128x512 .bf16)
    (Q : (BitVec 32) → sProp (MT nD τ sig Unit (Elt F) ℕ UU ℕ)) :
    iprop(records m κ
      ∗ pt c cc0_stg0_0 x
      ∗ pt c cc0_stg1_0 (WqB m c)
      ∗ pt c cc0_stg4_0 (WoB m c)
      ∗ holdsAny wq0 c
      ∗ holdsAny wo0 c
      ∗ (∃ f, pt c cc0_scratch2 f)
      ∗ owes (c : Thread nD τ) (ow c 0) W
      ∗ sendTok c 0
      ∗ holdsAny wq1 (peer 0 c)
      ∗ (∀ v, pt c cc0_stg0_0 x ∗ pt c cc0_stg1_0 (WqB m c) ∗ pt c cc0_stg4_0 (WoB m c) ∗ holds m wq0 c fullShare.left (WqB m c) ∗ holds m wq0 c lendB (WqB m c) ∗ holds m wo0 c fullShare (WoB m c) ∗ pt c cc0_scratch2 (k0_pay3 x) ∗ owes (c : Thread nD τ) (ow c 1) W ∗ cred (tallyAt (xCell c true 0) () N) -∗ Q v))
      ⊢ wp frame (wpE (defs₀ (F := F)) 𝒱₀ c none) Set.univ (k0_part2 (F := F) (Memref.whole cc0_stg0_0) (hstage0_0 0) (Memref.whole cc0_stg1_0) (hstage0_1 0) (Memref.whole cc0_stg2_0) (hstage0_2 0) (Memref.whole cc0_stg3_0) (hstage0_3 0) (Memref.whole cc0_stg4_0) (hstage0_4 0) (Memref.whole cc0_stg5_0) (hstage0_5 0) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c v25) Q := by
  rw [k0_part2_eq_skeleton]; unfold k0_part2_skel
  simp only [semSignalWord, semWaitWord, Prog.lift, Prog.bind_op, Prog.bind_ret, Prog.pure_eq_ret, Prog.bind_assoc, wp_deviceId]
  iintro ⟨#HR, Hx, Hw, Hwo, Hq, Ho, ⟨%fb, Hb⟩, HO, Ht, Hd, Hk⟩
  icases (holdsAny_ex wq0 c) $$ Hq with ⟨%fq, Hq⟩
  icases (holdsAny_ex wo0 c) $$ Ho with ⟨%fo, Ho⟩
  sl_exec
  have hq : wq0.view.read (Elt F) (part2_run.sl.Hq_w1 m c fq) = WqB m c :=
    (wqV_read_store 0 inb_S4x512x256_S1x512x256_0_0_0 fq _).trans (load_wq inb_S512x256_S512x256_0_0 (WqB m c))
  have ho : wo0.view.read (Elt F) (part2_run.sl.Ho_w2 m c fo) = WoB m c :=
    (woV_read_store 0 inb_S4x256x512_S1x256x512_0_0_0 fo _).trans (load_wo inb_S256x512_S256x512_0_0 (WoB m c))
  ihave Hq := (Entails.of_eq (holds_of_read m wq0 c fullShare (WqB m c) (part2_run.sl.Hq_w1 m c fq) hq)) $$ Hq
  ihave Ho := (Entails.of_eq (holds_of_read m wo0 c fullShare (WoB m c) (part2_run.sl.Ho_w2 m c fo) ho)) $$ Ho
  rw [store_x2, load_x]
  icases (pointsTo_share (PosShare.mem_left_op_right fullShare)).1 $$ Hq with ⟨Hq, Hq'⟩
  icases (pointsTo_share (PosShare.mem_left_op_right fullShare.right)).1 $$ Hq' with ⟨HqA, HqB⟩
  iapply (send_step m κ c 0 (k₀ := 0) (k₁ := 1) (src := wq0) (dst := wq1) (q := lendA) (fs := slotC m wq0 c (WqB m c)) rfl rfl (dev3_eq c) sQs0 sQr1 (wq_amount _ _ _) Entails.refl (land0 m c))
  isplitr; · iexact HR
  isplitl [HqA]; · iexact HqA
  isplitl [Hd]; · iexact Hd
  isplitl [HO]; · iexact HO
  isplitl [Ht]; · iexact Ht
  iintro ⟨Hc, HO⟩
  rw [wp_ret]; imodintro
  iapply Hk; iframe

set_option maxHeartbeats 1000000 in
/-- Copies 1, 2 and 3 started; the row and column numbers of the score matrix. -/
theorem part3_run (κ : GSem nD τ sig → ℕ) (c : Dev nD) (v14 v25 u : BitVec 32) (W : Waits sig Unit)
    (Q : (Σ' (v87 : IVec S256x256 32), IVec S256x256 32) → sProp (MT nD τ sig Unit (Elt F) ℕ UU ℕ)) :
    iprop(records m κ
      ∗ holds m wo0 c fullShare (WoB m c)
      ∗ holds m wq0 c lendB (WqB m c)
      ∗ owes (c : Thread nD τ) (ow c 1) W
      ∗ sendTok c 1
      ∗ holdsAny wo1 (peer 1 c)
      ∗ sendTok c 2
      ∗ holdsAny wq2 (peer 2 c)
      ∗ sendTok c 3
      ∗ holdsAny wo2 (peer 3 c)
      ∗ (holds m wo0 c fullShare.left (WoB m c) ∗ owes (c : Thread nD τ) (ow c 4) W ∗ cred (tallyAt (xCell c true 1) () N) ∗ cred (tallyAt (xCell c true 2) () N) ∗ cred (tallyAt (xCell c true 3) () N) -∗ Q ⟨iota .tc S256x256 32 [0] iota_S256x256_d0_w32, iota .tc S256x256 32 [1] iota_S256x256_d1_w32⟩))
      ⊢ wp frame (wpE (defs₀ (F := F)) 𝒱₀ c none) Set.univ (k0_part3 (F := F) (Memref.whole cc0_stg0_0) (hstage0_0 0) (Memref.whole cc0_stg1_0) (hstage0_1 0) (Memref.whole cc0_stg2_0) (hstage0_2 0) (Memref.whole cc0_stg3_0) (hstage0_3 0) (Memref.whole cc0_stg4_0) (hstage0_4 0) (Memref.whole cc0_stg5_0) (hstage0_5 0) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c v14 v25 u) Q := by
  rw [k0_part3_eq_skeleton]; unfold k0_part3_skel
  simp only [semSignalWord, semWaitWord, Prog.lift, Prog.bind_op, Prog.bind_ret, Prog.pure_eq_ret, Prog.bind_assoc, wp_deviceId]
  iintro ⟨#HR, Ho, Hq, HO, Ht1, Hd1, Ht2, Hd2, Ht3, Hd3, Hk⟩
  icases (pointsTo_share (PosShare.mem_left_op_right fullShare)).1 $$ Ho with ⟨Ho, Ho'⟩
  icases (pointsTo_share (PosShare.mem_left_op_right fullShare.right)).1 $$ Ho' with ⟨HoA, HoB⟩
  iapply (send_step m κ c 1 (k₀ := 1) (k₁ := 2) (src := wo0) (dst := wo1) (q := lendA) (fs := slotC m wo0 c (WoB m c)) rfl rfl (dev4_eq c) sOs0 sOr1 (wo_amount _ _ _) Entails.refl (land1 m c))
  isplitr; · iexact HR
  isplitl [HoA]; · iexact HoA
  isplitl [Hd1]; · iexact Hd1
  isplitl [HO]; · iexact HO
  isplitl [Ht1]; · iexact Ht1
  iintro ⟨Hc1, HO⟩
  iapply (send_step m κ c 2 (k₀ := 2) (k₁ := 3) (src := wq0) (dst := wq2) (q := lendB) (fs := slotC m wq0 c (WqB m c)) rfl rfl (dev5_eq c) sQs1 sQr2 (wq_amount _ _ _) Entails.refl (land2 m c))
  isplitr; · iexact HR
  isplitl [Hq]; · iexact Hq
  isplitl [Hd2]; · iexact Hd2
  isplitl [HO]; · iexact HO
  isplitl [Ht2]; · iexact Ht2
  iintro ⟨Hc2, HO⟩
  iapply (send_step m κ c 3 (k₀ := 3) (k₁ := 4) (src := wo0) (dst := wo2) (q := lendB) (fs := slotC m wo0 c (WoB m c)) rfl rfl (dev6_eq c) sOs1 sOr2 (wo_amount _ _ _) Entails.refl (land3 m c))
  isplitr; · iexact HR
  isplitl [HoB]; · iexact HoB
  isplitl [Hd3]; · iexact Hd3
  isplitl [HO]; · iexact HO
  isplitl [Ht3]; · iexact Ht3
  iintro ⟨Hc3, HO⟩
  rw [wp_ret]; imodintro
  iapply Hk; iframe

set_option maxHeartbeats 1000000 in
/-- The row and column numbers within a batch, and what the batch test starts from. -/
theorem part4_run (κ : GSem nD τ sig → ℕ) (c : Dev nD) (v87 v88 : IVec S256x256 32)
    (Q : (Σ' (v112 : IVec S256x256 32) (v114 : IVec S256x256 32) (v133 : IVec S256x256 1), IVec S256x256 32) → sProp (MT nD τ sig Unit (Elt F) ℕ UU ℕ)) :
    iprop((Q ⟨k0_pay4 v87, k0_pay5 v88, k0_pay6 v88, k0_pay7⟩))
      ⊢ wp frame (wpE (defs₀ (F := F)) 𝒱₀ c none) Set.univ (k0_part4 (F := F) (Memref.whole cc0_stg0_0) (hstage0_0 0) (Memref.whole cc0_stg1_0) (hstage0_1 0) (Memref.whole cc0_stg2_0) (hstage0_2 0) (Memref.whole cc0_stg3_0) (hstage0_3 0) (Memref.whole cc0_stg4_0) (hstage0_4 0) (Memref.whole cc0_stg5_0) (hstage0_5 0) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 v87 v88) Q := by
  rw [k0_part4_eq_skeleton]; unfold k0_part4_skel
  simp only [semSignalWord, semWaitWord, Prog.lift, Prog.bind_op, Prog.bind_ret, Prog.pure_eq_ret, Prog.bind_assoc, wp_deviceId]
  iintro Hk
  rw [wp_ret]; imodintro
  iexact Hk

set_option maxHeartbeats 1000000 in
/-- The batch test and the position's parts. -/
theorem part5_run (κ : GSem nD τ sig → ℕ) (c : Dev nD) (v88 v112 v114 v134 : IVec S256x256 32) (v133 : IVec S256x256 1)
    (Q : (Σ' (v137 : IVec S256x256 1) (v177 : IVec S256x256 32) (c128_i32_99 : BitVec 32) (v178 : BitVec 1), BitVec 32) → sProp (MT nD τ sig Unit (Elt F) ℕ UU ℕ)) :
    iprop((Q ⟨k0_pay8 v112 v114 v133 v134, k0_pay9 v88, 128#32, Scalar.cmpi .eq 128#32 0#32, 1#32⟩))
      ⊢ wp frame (wpE (defs₀ (F := F)) 𝒱₀ c none) Set.univ (k0_part5 (F := F) (Memref.whole cc0_stg0_0) (hstage0_0 0) (Memref.whole cc0_stg1_0) (hstage0_1 0) (Memref.whole cc0_stg2_0) (hstage0_2 0) (Memref.whole cc0_stg3_0) (hstage0_3 0) (Memref.whole cc0_stg4_0) (hstage0_4 0) (Memref.whole cc0_stg5_0) (hstage0_5 0) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 v88 v112 v114 v133 v134) Q := by
  rw [k0_part5_eq_skeleton]; unfold k0_part5_skel
  simp only [semSignalWord, semWaitWord, Prog.lift, Prog.bind_op, Prog.bind_ret, Prog.pure_eq_ret, Prog.bind_assoc, wp_deviceId]
  iintro Hk
  rw [wp_ret]; imodintro
  iexact Hk

set_option maxHeartbeats 1000000 in
/-- The bias. -/
theorem part6_run (κ : GSem nD τ sig → ℕ) (c : Dev nD) (v2 c128 c1 : BitVec 32) (v178 : BitVec 1) (v87 v177 : IVec S256x256 32) (v137 : IVec S256x256 1)
    (Q : (Σ' (v222 : FVec F S256x256 .f32) (v223 : BitVec 32) (c4_i32_114 : BitVec 32), BitVec 32) → sProp (MT nD τ sig Unit (Elt F) ℕ UU ℕ)) :
    iprop((∀ v, Q ⟨k0_pay10 (F := F) v87 v137 v177 c128 v178 c1, v, 4#32, 0#32⟩))
      ⊢ wp frame (wpE (defs₀ (F := F)) 𝒱₀ c none) Set.univ (k0_part6 (F := F) (Memref.whole cc0_stg0_0) (hstage0_0 0) (Memref.whole cc0_stg1_0) (hstage0_1 0) (Memref.whole cc0_stg2_0) (hstage0_2 0) (Memref.whole cc0_stg3_0) (hstage0_3 0) (Memref.whole cc0_stg4_0) (hstage0_4 0) (Memref.whole cc0_stg5_0) (hstage0_5 0) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 v2 v87 v137 v177 c128 v178 c1) Q := by
  rw [k0_part6_eq_skeleton]; unfold k0_part6_skel
  simp only [semSignalWord, semWaitWord, Prog.lift, Prog.bind_op, Prog.bind_ret, Prog.pure_eq_ret, Prog.bind_assoc, wp_deviceId]
  iintro Hk
  rw [wp_ret]; imodintro
  iapply Hk

set_option maxHeartbeats 1000000 in
/-- Hop 0: the queries, the first head's weights. -/
theorem part7_run (κ : GSem nD τ sig → ℕ) (c : Dev nD) (b : FVec F S256x256 .f32) (v223 v4 v5 : BitVec 32) (x : Vec F S256x512 .bf16) (w : Vec F S512x256 .bf16) (K V : Vec F S16x2x128x64 .bf16)
    (Q : (Σ' (v233 : BitVec 32) (v238 : FVec F S256x256 .bf16) (v259 : FVec F S256x256 .bf16), Vec F S1x2x128x64 .bf16) → sProp (MT nD τ sig Unit (Elt F) ℕ UU ℕ)) :
    iprop(pt c cc0_scratch2 x
      ∗ holds m wq0 c fullShare.left (w)
      ∗ pt c cc0_stg2_0 K
      ∗ pt c cc0_stg3_0 V
      ∗ (∀ v, pt c cc0_scratch2 x ∗ holds m wq0 c fullShare.left (w) ∗ pt c cc0_stg2_0 K ∗ pt c cc0_stg3_0 V -∗ Q ⟨v, qV x w, k0_pay12 b x (up1 w) (blk c 0 0 K), blk c 0 0 V⟩))
      ⊢ wp frame (wpE (defs₀ (F := F)) 𝒱₀ c none) Set.univ (k0_part7 (F := F) (Memref.whole cc0_stg0_0) (hstage0_0 0) (Memref.whole cc0_stg1_0) (hstage0_1 0) (Memref.whole cc0_stg2_0) (hstage0_2 0) (Memref.whole cc0_stg3_0) (hstage0_3 0) (Memref.whole cc0_stg4_0) (hstage0_4 0) (Memref.whole cc0_stg5_0) (hstage0_5 0) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c b v223 v4 v5) Q := by
  rw [k0_part7_eq_skeleton]; unfold k0_part7_skel
  simp only [semSignalWord, semWaitWord, Prog.lift, Prog.bind_op, Prog.bind_ret, Prog.pure_eq_ret, Prog.bind_assoc, wp_deviceId]
  iintro ⟨Hx, Hq, HK, HV, Hk⟩
  sl_exec
  rw [wp_ret]; imodintro
  rw [load_x2, wqV_load, load_k c 0 0 0#32 0#32 rfl rfl, load_v c 0 0 0#32 0#32 rfl rfl]
  iapply Hk; iframe

set_option maxHeartbeats 1000000 in
/-- Hop 0: the first two heads stored. -/
theorem part8_run (κ : GSem nD τ sig → ℕ) (c : Dev nD) (b : FVec F S256x256 .f32) (v233 : BitVec 32) (q v259 : FVec F S256x256 .bf16) (v261 : Vec F S1x2x128x64 .bf16) (K V : Vec F S16x2x128x64 .bf16)
    (P : Fin 4 → FVec F S256x64 .bf16) (h0 : k0_pay13 v259 v261 = P 0) (h1 : k0_pay14 b q (blk c 0 1 K) (blk c 0 1 V) = P 1)
    (Q : (Σ' (v299 : BitVec 32), BitVec 32) → sProp (MT nD τ sig Unit (Elt F) ℕ UU ℕ)) :
    iprop((∃ g, pt c cc0_scratch3 g)
      ∗ pt c cc0_stg2_0 K
      ∗ pt c cc0_stg3_0 V
      ∗ (∀ v u, (∃ g, ⌜Cols 2 P g⌝ ∗ pt c cc0_scratch3 g) ∗ pt c cc0_stg2_0 K ∗ pt c cc0_stg3_0 V -∗ Q ⟨v, u⟩))
      ⊢ wp frame (wpE (defs₀ (F := F)) 𝒱₀ c none) Set.univ (k0_part8 (F := F) (Memref.whole cc0_stg0_0) (hstage0_0 0) (Memref.whole cc0_stg1_0) (hstage0_1 0) (Memref.whole cc0_stg2_0) (hstage0_2 0) (Memref.whole cc0_stg3_0) (hstage0_3 0) (Memref.whole cc0_stg4_0) (hstage0_4 0) (Memref.whole cc0_stg5_0) (hstage0_5 0) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c b v233 q v259 v261) Q := by
  rw [k0_part8_eq_skeleton]; unfold k0_part8_skel
  simp only [semSignalWord, semWaitWord, Prog.lift, Prog.bind_op, Prog.bind_ret, Prog.pure_eq_ret, Prog.bind_assoc, wp_deviceId]
  iintro ⟨⟨%g, Hg⟩, HK, HV, Hk⟩
  sl_exec
  rw [wp_ret]; imodintro
  iapply Hk; iframe
  iexists _; isplitr; swap; · iexact Hg
  ipureintro; exact cols_store (cols_store (cols_zero P g) (by decide) rfl _ _ h0) (by decide) rfl _ _ h1

set_option maxHeartbeats 1000000 in
/-- Hop 0: the third head stored, the last head's scores. -/
theorem part9_run (κ : GSem nD τ sig → ℕ) (c : Dev nD) (b : FVec F S256x256 .f32) (v233 v299 u : BitVec 32) (q : FVec F S256x256 .bf16) (K V : Vec F S16x2x128x64 .bf16)
    (P : Fin 4 → FVec F S256x64 .bf16) (h2 : k0_pay15 b q (blk c 0 2 K) (blk c 0 2 V) = P 2)
    (Q : (Σ' (v330 : BitVec 32), FVec F S256x256 .f32) → sProp (MT nD τ sig Unit (Elt F) ℕ UU ℕ)) :
    iprop((∃ g, ⌜Cols 2 P g⌝ ∗ pt c cc0_scratch3 g)
      ∗ pt c cc0_stg2_0 K
      ∗ pt c cc0_stg3_0 V
      ∗ (∀ v, (∃ g, ⌜Cols 3 P g⌝ ∗ pt c cc0_scratch3 g) ∗ pt c cc0_stg2_0 K ∗ pt c cc0_stg3_0 V -∗ Q ⟨v, k0_pay16 q (blk c 0 3 K)⟩))
      ⊢ wp frame (wpE (defs₀ (F := F)) 𝒱₀ c none) Set.univ (k0_part9 (F := F) (Memref.whole cc0_stg0_0) (hstage0_0 0) (Memref.whole cc0_stg1_0) (hstage0_1 0) (Memref.whole cc0_stg2_0) (hstage0_2 0) (Memref.whole cc0_stg3_0) (hstage0_3 0) (Memref.whole cc0_stg4_0) (hstage0_4 0) (Memref.whole cc0_stg5_0) (hstage0_5 0) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c b v233 q v299 u) Q := by
  rw [k0_part9_eq_skeleton]; unfold k0_part9_skel
  simp only [semSignalWord, semWaitWord, Prog.lift, Prog.bind_op, Prog.bind_ret, Prog.pure_eq_ret, Prog.bind_assoc, wp_deviceId]
  iintro ⟨⟨%g, %hg, Hg⟩, HK, HV, Hk⟩
  sl_exec
  rw [wp_ret]; imodintro
  rw [load_k c 0 3 0#32 3#32 rfl rfl]
  iapply Hk; iframe
  iexists _; isplitr; swap; · iexact Hg
  ipureintro; exact cols_store hg (by decide) rfl _ _ h2

set_option maxHeartbeats 1000000 in
/-- Hop 0: the last head stored, the contribution; copy 0 from the left received. -/
theorem part10_run (κ : GSem nD τ sig → ℕ) (c : Dev nD) (b : FVec F S256x256 .f32) (v14 v330 : BitVec 32) (v338 : FVec F S256x256 .f32) (w : Vec F S256x512 .bf16) (K V : Vec F S16x2x128x64 .bf16) (W : Waits sig Unit)
    (P : Fin 4 → FVec F S256x64 .bf16) (h3 : k0_pay17 b v338 (blk c 0 3 V) = P 3)
    (Q : (FVec F S256x512 .f32) → sProp (MT nD τ sig Unit (Elt F) ℕ UU ℕ)) :
    iprop(records m κ
      ∗ levAts L lv
      ∗ (∃ g, ⌜Cols 3 P g⌝ ∗ pt c cc0_scratch3 g)
      ∗ pt c cc0_stg3_0 V
      ∗ holds m wo0 c fullShare.left (w)
      ∗ waitTok c false 0
      ∗ owes (c : Thread nD τ) (ow c 4) W
      ∗ ((∃ g, pt c cc0_scratch3 g) ∗ pt c cc0_stg3_0 V ∗ holds m wo0 c fullShare.left (w) ∗ (∃ W', owes (c : Thread nD τ) (ow c 4) W') ∗ spent c false 0 ∗ holds m wq1 c fullShare (WqB m (left c)) -∗ Q (k0_pay18 (ctxV P) (up2 w))))
      ⊢ wp frame (wpE (defs₀ (F := F)) 𝒱₀ c none) Set.univ (k0_part10 (F := F) (Memref.whole cc0_stg0_0) (hstage0_0 0) (Memref.whole cc0_stg1_0) (hstage0_1 0) (Memref.whole cc0_stg2_0) (hstage0_2 0) (Memref.whole cc0_stg3_0) (hstage0_3 0) (Memref.whole cc0_stg4_0) (hstage0_4 0) (Memref.whole cc0_stg5_0) (hstage0_5 0) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c v14 b v330 v338) Q := by
  rw [k0_part10_eq_skeleton]; unfold k0_part10_skel
  simp only [semSignalWord, semWaitWord, Prog.lift, Prog.bind_op, Prog.bind_ret, Prog.pure_eq_ret, Prog.bind_assoc, wp_deviceId]
  iintro ⟨#HR, #Hlev, ⟨%g, %hg, Hg⟩, HV, Ho, Ht, HO, Hk⟩
  sl_exec
  have hc : part10_run.sl.v359 c b v338 V g = ctxV P :=
    (load_ctx inb_S256x256_S256x256_0_0 _).trans (cols_four (cols_store hg (by decide) rfl inb_S256x256_S256x64_0_192 _ h3))

  iapply (wait_step m κ c false 0 (P := holds m wq1 c fullShare (WqB m (left c))) sQr1 (wq_credit _ _) Entails.refl (mayWait_ow c _ 4 (by decide)))
  isplitr; · iexact HR
  isplitr; · iexact Hlev
  isplitl [Ht]; · iexact Ht
  isplitl [HO]; · iexact HO
  iintro ⟨⟨%Wf0, HO⟩, Hs, Hp⟩
  rw [wp_ret]; imodintro
  rw [woV_load, hc]
  iapply Hk; iframe
  isplitl [Hg]; · iexists _; iexact Hg
  iexists _; iexact HO

set_option maxHeartbeats 1000000 in
/-- Copy 4 started: what came from the left goes on to the right; copy 1 from the left received. -/
theorem part11_run (κ : GSem nD τ sig → ℕ) (c : Dev nD) (v2 v14 v25 : BitVec 32) (x : Vec F S256x512 .bf16) (W : Waits sig Unit)
    (Q : (Σ' (v399 : BitVec 32), Vec F S256x512 .bf16) → sProp (MT nD τ sig Unit (Elt F) ℕ UU ℕ)) :
    iprop(records m κ
      ∗ levAts L lv
      ∗ pt c cc0_scratch2 x
      ∗ holds m wq1 c fullShare (WqB m (left c))
      ∗ owes (c : Thread nD τ) (ow c 4) W
      ∗ sendTok c 4
      ∗ holdsAny wq3 (peer 4 c)
      ∗ waitTok c false 1
      ∗ (∀ v, pt c cc0_scratch2 x ∗ holds m wq1 c fullShare.left (WqB m (left c)) ∗ cred (tallyAt (xCell c true 4) () N) ∗ (∃ W', owes (c : Thread nD τ) (ow c 5) W') ∗ spent c false 1 ∗ holds m wo1 c fullShare (WoB m (left c)) -∗ Q ⟨v, x⟩))
      ⊢ wp frame (wpE (defs₀ (F := F)) 𝒱₀ c none) Set.univ (k0_part11 (F := F) (Memref.whole cc0_stg0_0) (hstage0_0 0) (Memref.whole cc0_stg1_0) (hstage0_1 0) (Memref.whole cc0_stg2_0) (hstage0_2 0) (Memref.whole cc0_stg3_0) (hstage0_3 0) (Memref.whole cc0_stg4_0) (hstage0_4 0) (Memref.whole cc0_stg5_0) (hstage0_5 0) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c v2 v14 v25) Q := by
  rw [k0_part11_eq_skeleton]; unfold k0_part11_skel
  simp only [semSignalWord, semWaitWord, Prog.lift, Prog.bind_op, Prog.bind_ret, Prog.pure_eq_ret, Prog.bind_assoc, wp_deviceId]
  iintro ⟨#HR, #Hlev, Hx, Hq, HO, Ht, Hd, Hw, Hk⟩
  icases (pointsTo_share (PosShare.mem_left_op_right fullShare)).1 $$ Hq with ⟨Hq, HqA⟩
  iapply (send_step m κ c 4 (k₀ := 4) (k₁ := 5) (src := wq1) (dst := wq3) (q := fullShare.right) (fs := slotC m wq1 c (WqB m (left c))) rfl rfl (dev7_eq c) sQs2 sQr3 (wq_amount _ _ _) Entails.refl (land4 m c))
  isplitr; · iexact HR
  isplitl [HqA]; · iexact HqA
  isplitl [Hd]; · iexact Hd
  isplitl [HO]; · iexact HO
  isplitl [Ht]; · iexact Ht
  iintro ⟨Hc, HO⟩
  iapply (wait_step m κ c false 1 (P := holds m wo1 c fullShare (WoB m (left c))) sOr1 (wo_credit _ _) Entails.refl (mayWait_ow c _ 5 (by decide)))
  isplitr; · iexact HR
  isplitr; · iexact Hlev
  isplitl [Hw]; · iexact Hw
  isplitl [HO]; · iexact HO
  iintro ⟨⟨%Wf1, HO⟩, Hs, Hp⟩
  sl_exec
  rw [wp_ret]; imodintro
  rw [load_x2]
  iapply Hk; iframe
  iexists _; iexact HO

set_option maxHeartbeats 1000000 in
/-- Hop 1: the queries, the first head stored. -/
theorem part12_run (κ : GSem nD τ sig → ℕ) (c : Dev nD) (b : FVec F S256x256 .f32) (v399 : BitVec 32) (x : Vec F S256x512 .bf16) (w : Vec F S512x256 .bf16) (K V : Vec F S16x2x128x64 .bf16)
    (P : Fin 4 → FVec F S256x64 .bf16) (h0 : k0_pay20 b x (up1 w) (blk c 3 0 K) (blk c 3 0 V) = P 0)
    (Q : (Σ' (v404 : FVec F S256x256 .bf16) (v436 : BitVec 32), FVec F S256x64 .bf16) → sProp (MT nD τ sig Unit (Elt F) ℕ UU ℕ)) :
    iprop(holds m wq1 c fullShare.left (w)
      ∗ (∃ g, pt c cc0_scratch3 g)
      ∗ pt c cc0_stg2_0 K
      ∗ pt c cc0_stg3_0 V
      ∗ (∀ v, holds m wq1 c fullShare.left (w) ∗ (∃ g, ⌜Cols 1 P g⌝ ∗ pt c cc0_scratch3 g) ∗ pt c cc0_stg2_0 K ∗ pt c cc0_stg3_0 V -∗ Q ⟨k0_pay19 x (up1 w), v, k0_pay21 x (up1 w)⟩))
      ⊢ wp frame (wpE (defs₀ (F := F)) 𝒱₀ c none) Set.univ (k0_part12 (F := F) (Memref.whole cc0_stg0_0) (hstage0_0 0) (Memref.whole cc0_stg1_0) (hstage0_1 0) (Memref.whole cc0_stg2_0) (hstage0_2 0) (Memref.whole cc0_stg3_0) (hstage0_3 0) (Memref.whole cc0_stg4_0) (hstage0_4 0) (Memref.whole cc0_stg5_0) (hstage0_5 0) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c b v399 x) Q := by
  rw [k0_part12_eq_skeleton]; unfold k0_part12_skel
  simp only [semSignalWord, semWaitWord, Prog.lift, Prog.bind_op, Prog.bind_ret, Prog.pure_eq_ret, Prog.bind_assoc, wp_deviceId]
  iintro ⟨Hq, ⟨%g, Hg⟩, HK, HV, Hk⟩
  sl_exec
  rw [wp_ret]; imodintro
  rw [wqV_load, load_k c 3 0 3#32 0#32 rfl rfl, load_v c 3 0 3#32 0#32 rfl rfl]
  iapply Hk; iframe
  iexists _; isplitr; swap; · iexact Hg
  ipureintro; exact cols_store (cols_zero P g) (by decide) rfl _ _ h0

set_option maxHeartbeats 1000000 in
/-- Hop 1: the second head stored, the third's weights begun. -/
theorem part13_run (κ : GSem nD τ sig → ℕ) (c : Dev nD) (b : FVec F S256x256 .f32) (v399 v436 : BitVec 32) (q : FVec F S256x256 .bf16) (v437 : FVec F S256x64 .bf16) (K V : Vec F S16x2x128x64 .bf16)
    (P : Fin 4 → FVec F S256x64 .bf16) (h1 : k0_pay22 b v437 (blk c 3 1 K) (blk c 3 1 V) = P 1)
    (Q : (Σ' (v466 : BitVec 32) (v475 : FVec F S256x256 .f32), FVec F S256x1 .f32) → sProp (MT nD τ sig Unit (Elt F) ℕ UU ℕ)) :
    iprop((∃ g, ⌜Cols 1 P g⌝ ∗ pt c cc0_scratch3 g)
      ∗ pt c cc0_stg2_0 K
      ∗ pt c cc0_stg3_0 V
      ∗ (∀ v, (∃ g, ⌜Cols 2 P g⌝ ∗ pt c cc0_scratch3 g) ∗ pt c cc0_stg2_0 K ∗ pt c cc0_stg3_0 V -∗ Q ⟨v, k0_pay23 b q (blk c 3 2 K), k0_pay24 b q (blk c 3 2 K)⟩))
      ⊢ wp frame (wpE (defs₀ (F := F)) 𝒱₀ c none) Set.univ (k0_part13 (F := F) (Memref.whole cc0_stg0_0) (hstage0_0 0) (Memref.whole cc0_stg1_0) (hstage0_1 0) (Memref.whole cc0_stg2_0) (hstage0_2 0) (Memref.whole cc0_stg3_0) (hstage0_3 0) (Memref.whole cc0_stg4_0) (hstage0_4 0) (Memref.whole cc0_stg5_0) (hstage0_5 0) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c b v399 q v436 v437) Q := by
  rw [k0_part13_eq_skeleton]; unfold k0_part13_skel
  simp only [semSignalWord, semWaitWord, Prog.lift, Prog.bind_op, Prog.bind_ret, Prog.pure_eq_ret, Prog.bind_assoc, wp_deviceId]
  iintro ⟨⟨%g, %hg, Hg⟩, HK, HV, Hk⟩
  sl_exec
  rw [wp_ret]; imodintro
  rw [load_k c 3 2 3#32 2#32 rfl rfl]
  iapply Hk; iframe
  iexists _; isplitr; swap; · iexact Hg
  ipureintro; exact cols_store hg (by decide) rfl _ _ h1

set_option maxHeartbeats 1000000 in
/-- Hop 1: the third head stored, the last head's weights. -/
theorem part14_run (κ : GSem nD τ sig → ℕ) (c : Dev nD) (b : FVec F S256x256 .f32) (v399 v466 : BitVec 32) (q : FVec F S256x256 .bf16) (v475 : FVec F S256x256 .f32) (v477 : FVec F S256x1 .f32) (K V : Vec F S16x2x128x64 .bf16)
    (P : Fin 4 → FVec F S256x64 .bf16) (h2 : k0_pay25 v475 v477 (blk c 3 2 V) = P 2)
    (Q : (Σ' (v515 : FVec F S256x256 .bf16), Vec F S1x2x128x64 .bf16) → sProp (MT nD τ sig Unit (Elt F) ℕ UU ℕ)) :
    iprop((∃ g, ⌜Cols 2 P g⌝ ∗ pt c cc0_scratch3 g)
      ∗ pt c cc0_stg2_0 K
      ∗ pt c cc0_stg3_0 V
      ∗ ((∃ g, ⌜Cols 3 P g⌝ ∗ pt c cc0_scratch3 g) ∗ pt c cc0_stg2_0 K ∗ pt c cc0_stg3_0 V -∗ Q ⟨k0_pay26 b q (blk c 3 3 K), blk c 3 3 V⟩))
      ⊢ wp frame (wpE (defs₀ (F := F)) 𝒱₀ c none) Set.univ (k0_part14 (F := F) (Memref.whole cc0_stg0_0) (hstage0_0 0) (Memref.whole cc0_stg1_0) (hstage0_1 0) (Memref.whole cc0_stg2_0) (hstage0_2 0) (Memref.whole cc0_stg3_0) (hstage0_3 0) (Memref.whole cc0_stg4_0) (hstage0_4 0) (Memref.whole cc0_stg5_0) (hstage0_5 0) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c b v399 q v466 v475 v477) Q := by
  rw [k0_part14_eq_skeleton]; unfold k0_part14_skel
  simp only [semSignalWord, semWaitWord, Prog.lift, Prog.bind_op, Prog.bind_ret, Prog.pure_eq_ret, Prog.bind_assoc, wp_deviceId]
  iintro ⟨⟨%g, %hg, Hg⟩, HK, HV, Hk⟩
  sl_exec
  rw [wp_ret]; imodintro
  rw [load_k c 3 3 3#32 3#32 rfl rfl, load_v c 3 3 3#32 3#32 rfl rfl]
  iapply Hk; iframe
  iexists _; isplitr; swap; · iexact Hg
  ipureintro; exact cols_store hg (by decide) rfl _ _ h2

set_option maxHeartbeats 1000000 in
/-- Hop 1: the last head stored, the contribution added; copy 3 from the right received. -/
theorem part15_run (κ : GSem nD τ sig → ℕ) (c : Dev nD) (v14 : BitVec 32) (acc : FVec F S256x512 .f32) (v515 : FVec F S256x256 .bf16) (v517 : Vec F S1x2x128x64 .bf16) (w : Vec F S256x512 .bf16) (W : Waits sig Unit)
    (P : Fin 4 → FVec F S256x64 .bf16) (h3 : k0_pay27 v515 v517 = P 3)
    (Q : (FVec F S256x512 .f32) → sProp (MT nD τ sig Unit (Elt F) ℕ UU ℕ)) :
    iprop(records m κ
      ∗ levAts L lv
      ∗ (∃ g, ⌜Cols 3 P g⌝ ∗ pt c cc0_scratch3 g)
      ∗ holds m wo1 c fullShare (w)
      ∗ waitTok c false 3
      ∗ owes (c : Thread nD τ) (ow c 5) W
      ∗ ((∃ g, pt c cc0_scratch3 g) ∗ holds m wo1 c fullShare (w) ∗ (∃ W', owes (c : Thread nD τ) (ow c 5) W') ∗ spent c false 3 ∗ holds m wo2 c fullShare (WoB m (right c)) -∗ Q (k0_pay28 acc (ctxV P) (up2 w))))
      ⊢ wp frame (wpE (defs₀ (F := F)) 𝒱₀ c none) Set.univ (k0_part15 (F := F) (Memref.whole cc0_stg0_0) (hstage0_0 0) (Memref.whole cc0_stg1_0) (hstage0_1 0) (Memref.whole cc0_stg2_0) (hstage0_2 0) (Memref.whole cc0_stg3_0) (hstage0_3 0) (Memref.whole cc0_stg4_0) (hstage0_4 0) (Memref.whole cc0_stg5_0) (hstage0_5 0) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 v14 acc v515 v517) Q := by
  rw [k0_part15_eq_skeleton]; unfold k0_part15_skel
  simp only [semSignalWord, semWaitWord, Prog.lift, Prog.bind_op, Prog.bind_ret, Prog.pure_eq_ret, Prog.bind_assoc, wp_deviceId]
  iintro ⟨#HR, #Hlev, ⟨%g, %hg, Hg⟩, Ho, Ht, HO, Hk⟩
  sl_exec
  have hc : part15_run.sl.v525 v515 v517 g = ctxV P :=
    (load_ctx inb_S256x256_S256x256_0_0 _).trans (cols_four (cols_store hg (by decide) rfl inb_S256x256_S256x64_0_192 _ h3))

  iapply (wait_step m κ c false 3 (P := holds m wo2 c fullShare (WoB m (right c))) sOr2 (wo_credit _ _) Entails.refl (mayWait_ow c _ 5 (by decide)))
  isplitr; · iexact HR
  isplitr; · iexact Hlev
  isplitl [Ht]; · iexact Ht
  isplitl [HO]; · iexact HO
  iintro ⟨⟨%Wf3, HO⟩, Hs, Hp⟩
  rw [wp_ret]; imodintro
  rw [woV_load, hc]
  iapply Hk; iframe
  isplitl [Hg]; · iexists _; iexact Hg
  iexists _; iexact HO

set_option maxHeartbeats 1000000 in
/-- Copy 5 started: what came from the right goes on to the left; copy 2 from the right received; hop 2's queries. -/
theorem part16_run (κ : GSem nD τ sig → ℕ) (c : Dev nD) (v2 v14 : BitVec 32) (x : Vec F S256x512 .bf16) (K V : Vec F S16x2x128x64 .bf16) (W : Waits sig Unit)
    (Q : (Σ' (v566 : BitVec 32) (v571 : FVec F S256x256 .bf16) (v573 : BitVec 32) (v574 : FVec F S256x64 .bf16), Vec F S1x2x128x64 .bf16) → sProp (MT nD τ sig Unit (Elt F) ℕ UU ℕ)) :
    iprop(records m κ
      ∗ levAts L lv
      ∗ pt c cc0_scratch2 x
      ∗ pt c cc0_stg2_0 K
      ∗ holds m wo2 c fullShare (WoB m (right c))
      ∗ owes (c : Thread nD τ) (ow c 5) W
      ∗ sendTok c 5
      ∗ holdsAny wo3 (peer 5 c)
      ∗ waitTok c false 2
      ∗ (∀ v u, pt c cc0_scratch2 x ∗ pt c cc0_stg2_0 K ∗ holds m wo2 c fullShare.left (WoB m (right c)) ∗ cred (tallyAt (xCell c true 5) () N) ∗ (∃ W', owes (c : Thread nD τ) (ow c 6) W') ∗ spent c false 2 ∗ holds m wq2 c fullShare (WqB m (right c)) -∗ Q ⟨v, k0_pay29 x (up1 (WqB m (right c))), u, k0_pay30 x (up1 (WqB m (right c))), blk c 1 0 K⟩))
      ⊢ wp frame (wpE (defs₀ (F := F)) 𝒱₀ c none) Set.univ (k0_part16 (F := F) (Memref.whole cc0_stg0_0) (hstage0_0 0) (Memref.whole cc0_stg1_0) (hstage0_1 0) (Memref.whole cc0_stg2_0) (hstage0_2 0) (Memref.whole cc0_stg3_0) (hstage0_3 0) (Memref.whole cc0_stg4_0) (hstage0_4 0) (Memref.whole cc0_stg5_0) (hstage0_5 0) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c v2 v14) Q := by
  rw [k0_part16_eq_skeleton]; unfold k0_part16_skel
  simp only [semSignalWord, semWaitWord, Prog.lift, Prog.bind_op, Prog.bind_ret, Prog.pure_eq_ret, Prog.bind_assoc, wp_deviceId]
  iintro ⟨#HR, #Hlev, Hx, HK, Ho, HO, Ht, Hd, Hw, Hk⟩
  icases (pointsTo_share (PosShare.mem_left_op_right fullShare)).1 $$ Ho with ⟨Ho, HoA⟩
  iapply (send_step m κ c 5 (k₀ := 5) (k₁ := 6) (src := wo2) (dst := wo3) (q := fullShare.right) (fs := slotC m wo2 c (WoB m (right c))) rfl rfl (dev8_eq c) sOs2 sOr3 (wo_amount _ _ _) Entails.refl (land5 m c))
  isplitr; · iexact HR
  isplitl [HoA]; · iexact HoA
  isplitl [Hd]; · iexact Hd
  isplitl [HO]; · iexact HO
  isplitl [Ht]; · iexact Ht
  iintro ⟨Hc, HO⟩
  iapply (wait_step m κ c false 2 (P := holds m wq2 c fullShare (WqB m (right c))) sQr2 (wq_credit _ _) Entails.refl (mayWait_ow c _ 6 (by decide)))
  isplitr; · iexact HR
  isplitr; · iexact Hlev
  isplitl [Hw]; · iexact Hw
  isplitl [HO]; · iexact HO
  iintro ⟨⟨%Wf2, HO⟩, Hs, Hp⟩
  sl_exec
  rw [wp_ret]; imodintro
  rw [load_x2, wqV_load, load_k c 1 0 1#32 0#32 rfl rfl]
  iapply Hk; iframe
  iexists _; iexact HO

set_option maxHeartbeats 1000000 in
/-- Hop 2: the first head stored, the second's scores. -/
theorem part17_run (κ : GSem nD τ sig → ℕ) (c : Dev nD) (b : FVec F S256x256 .f32) (v566 v573 : BitVec 32) (q : FVec F S256x256 .bf16) (v574 : FVec F S256x64 .bf16) (v576 : Vec F S1x2x128x64 .bf16) (K V : Vec F S16x2x128x64 .bf16)
    (P : Fin 4 → FVec F S256x64 .bf16) (h0 : k0_pay31 b v574 v576 (blk c 1 0 V) = P 0)
    (Q : (Σ' (v603 : BitVec 32), FVec F S256x256 .f32) → sProp (MT nD τ sig Unit (Elt F) ℕ UU ℕ)) :
    iprop((∃ g, pt c cc0_scratch3 g)
      ∗ pt c cc0_stg2_0 K
      ∗ pt c cc0_stg3_0 V
      ∗ (∀ v, (∃ g, ⌜Cols 1 P g⌝ ∗ pt c cc0_scratch3 g) ∗ pt c cc0_stg2_0 K ∗ pt c cc0_stg3_0 V -∗ Q ⟨v, k0_pay32 b q (blk c 1 1 K)⟩))
      ⊢ wp frame (wpE (defs₀ (F := F)) 𝒱₀ c none) Set.univ (k0_part17 (F := F) (Memref.whole cc0_stg0_0) (hstage0_0 0) (Memref.whole cc0_stg1_0) (hstage0_1 0) (Memref.whole cc0_stg2_0) (hstage0_2 0) (Memref.whole cc0_stg3_0) (hstage0_3 0) (Memref.whole cc0_stg4_0) (hstage0_4 0) (Memref.whole cc0_stg5_0) (hstage0_5 0) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c b v566 q v573 v574 v576) Q := by
  rw [k0_part17_eq_skeleton]; unfold k0_part17_skel
  simp only [semSignalWord, semWaitWord, Prog.lift, Prog.bind_op, Prog.bind_ret, Prog.pure_eq_ret, Prog.bind_assoc, wp_deviceId]
  iintro ⟨⟨%g, Hg⟩, HK, HV, Hk⟩
  sl_exec
  rw [wp_ret]; imodintro
  rw [load_k c 1 1 1#32 1#32 rfl rfl]
  iapply Hk; iframe
  iexists _; isplitr; swap; · iexact Hg
  ipureintro; exact cols_store (cols_zero P g) (by decide) rfl _ _ h0

set_option maxHeartbeats 1000000 in
/-- Hop 2: the second head stored, the third's weights. -/
theorem part18_run (κ : GSem nD τ sig → ℕ) (c : Dev nD) (b : FVec F S256x256 .f32) (v566 v603 : BitVec 32) (q : FVec F S256x256 .bf16) (v617 : FVec F S256x256 .f32) (K V : Vec F S16x2x128x64 .bf16)
    (P : Fin 4 → FVec F S256x64 .bf16) (h1 : k0_pay33 v617 (blk c 1 1 V) = P 1)
    (Q : (Σ' (v652 : FVec F S256x256 .bf16) (v656 : FVec F S256x64 .bf16), FVec F S256x64 .f32) → sProp (MT nD τ sig Unit (Elt F) ℕ UU ℕ)) :
    iprop((∃ g, ⌜Cols 1 P g⌝ ∗ pt c cc0_scratch3 g)
      ∗ pt c cc0_stg2_0 K
      ∗ pt c cc0_stg3_0 V
      ∗ ((∃ g, ⌜Cols 2 P g⌝ ∗ pt c cc0_scratch3 g) ∗ pt c cc0_stg2_0 K ∗ pt c cc0_stg3_0 V -∗ Q ⟨k0_pay34 b q (blk c 1 2 K), k0_pay35 (blk c 1 2 V), constant S256x64 .f32 0x00000000#32⟩))
      ⊢ wp frame (wpE (defs₀ (F := F)) 𝒱₀ c none) Set.univ (k0_part18 (F := F) (Memref.whole cc0_stg0_0) (hstage0_0 0) (Memref.whole cc0_stg1_0) (hstage0_1 0) (Memref.whole cc0_stg2_0) (hstage0_2 0) (Memref.whole cc0_stg3_0) (hstage0_3 0) (Memref.whole cc0_stg4_0) (hstage0_4 0) (Memref.whole cc0_stg5_0) (hstage0_5 0) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c b v566 q v603 v617) Q := by
  rw [k0_part18_eq_skeleton]; unfold k0_part18_skel
  simp only [semSignalWord, semWaitWord, Prog.lift, Prog.bind_op, Prog.bind_ret, Prog.pure_eq_ret, Prog.bind_assoc, wp_deviceId]
  iintro ⟨⟨%g, %hg, Hg⟩, HK, HV, Hk⟩
  sl_exec
  rw [wp_ret]; imodintro
  rw [load_k c 1 2 1#32 2#32 rfl rfl, load_v c 1 2 1#32 2#32 rfl rfl]
  iapply Hk; iframe
  iexists _; isplitr; swap; · iexact Hg
  ipureintro; exact cols_store hg (by decide) rfl _ _ h1

set_option maxHeartbeats 1000000 in
/-- Hop 2: the last two heads stored, the context read. -/
theorem part19_run (κ : GSem nD τ sig → ℕ) (c : Dev nD) (b : FVec F S256x256 .f32) (v566 : BitVec 32) (q v652 : FVec F S256x256 .bf16) (v656 : FVec F S256x64 .bf16) (z : FVec F S256x64 .f32) (K V : Vec F S16x2x128x64 .bf16)
    (P : Fin 4 → FVec F S256x64 .bf16) (h2 : k0_pay36 v652 v656 z = P 2) (h3 : k0_pay37 b q (blk c 1 3 K) (blk c 1 3 V) = P 3)
    (Q : (Vec F S256x256 .bf16) → sProp (MT nD τ sig Unit (Elt F) ℕ UU ℕ)) :
    iprop((∃ g, ⌜Cols 2 P g⌝ ∗ pt c cc0_scratch3 g)
      ∗ pt c cc0_stg2_0 K
      ∗ pt c cc0_stg3_0 V
      ∗ ((∃ g, pt c cc0_scratch3 g) ∗ pt c cc0_stg2_0 K ∗ pt c cc0_stg3_0 V -∗ Q (ctxV P)))
      ⊢ wp frame (wpE (defs₀ (F := F)) 𝒱₀ c none) Set.univ (k0_part19 (F := F) (Memref.whole cc0_stg0_0) (hstage0_0 0) (Memref.whole cc0_stg1_0) (hstage0_1 0) (Memref.whole cc0_stg2_0) (hstage0_2 0) (Memref.whole cc0_stg3_0) (hstage0_3 0) (Memref.whole cc0_stg4_0) (hstage0_4 0) (Memref.whole cc0_stg5_0) (hstage0_5 0) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c b v566 q v652 v656 z) Q := by
  rw [k0_part19_eq_skeleton]; unfold k0_part19_skel
  simp only [semSignalWord, semWaitWord, Prog.lift, Prog.bind_op, Prog.bind_ret, Prog.pure_eq_ret, Prog.bind_assoc, wp_deviceId]
  iintro ⟨⟨%g, %hg, Hg⟩, HK, HV, Hk⟩
  sl_exec
  have hc : part19_run.sl.v692 c b q v652 v656 z K V g = ctxV P :=
    (load_ctx inb_S256x256_S256x256_0_0 _).trans (cols_four
      (cols_store (cols_store hg (by decide) rfl inb_S256x256_S256x64_0_128 _ h2) (by decide) rfl inb_S256x256_S256x64_0_192 _ h3))
  rw [wp_ret]; imodintro
  rw [hc]
  iapply Hk; iframe
  iexists _; iexact Hg

set_option maxHeartbeats 1000000 in
/-- Hop 2: the contribution added; copies 4 and 5 received. -/
theorem part20_run (κ : GSem nD τ sig → ℕ) (c : Dev nD) (v2 v14 : BitVec 32) (acc : FVec F S256x512 .f32) (ctx : Vec F S256x256 .bf16) (w : Vec F S256x512 .bf16) (W : Waits sig Unit)
    (Q : (Σ' (v696 : FVec F S256x512 .f32) (v716 : BitVec 32) (v721 : BitVec 1), BitVec 32) → sProp (MT nD τ sig Unit (Elt F) ℕ UU ℕ)) :
    iprop(records m κ
      ∗ levAts L lv
      ∗ holds m wo2 c fullShare.left (w)
      ∗ waitTok c false 4
      ∗ waitTok c false 5
      ∗ owes (c : Thread nD τ) (ow c 6) W
      ∗ (∀ u v s, holds m wo2 c fullShare.left (w) ∗ (∃ W', owes (c : Thread nD τ) (ow c 6) W') ∗ spent c false 4 ∗ holds m wq3 c fullShare (WqB m (opp c)) ∗ spent c false 5 ∗ holds m wo3 c fullShare (WoB m (opp c)) -∗ Q ⟨k0_pay38 acc ctx (up2 w), u, v, s⟩))
      ⊢ wp frame (wpE (defs₀ (F := F)) 𝒱₀ c none) Set.univ (k0_part20 (F := F) (Memref.whole cc0_stg0_0) (hstage0_0 0) (Memref.whole cc0_stg1_0) (hstage0_1 0) (Memref.whole cc0_stg2_0) (hstage0_2 0) (Memref.whole cc0_stg3_0) (hstage0_3 0) (Memref.whole cc0_stg4_0) (hstage0_4 0) (Memref.whole cc0_stg5_0) (hstage0_5 0) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 v2 v14 acc ctx) Q := by
  rw [k0_part20_eq_skeleton]; unfold k0_part20_skel
  simp only [semSignalWord, semWaitWord, Prog.lift, Prog.bind_op, Prog.bind_ret, Prog.pure_eq_ret, Prog.bind_assoc, wp_deviceId]
  iintro ⟨#HR, #Hlev, Ho, Ht, Ht', HO, Hk⟩
  sl_exec
  iapply (wait_step m κ c false 4 (P := holds m wq3 c fullShare (WqB m (opp c))) sQr3 (wq_credit _ _) Entails.refl (mayWait_ow c _ 6 (by decide)))
  isplitr; · iexact HR
  isplitr; · iexact Hlev
  isplitl [Ht]; · iexact Ht
  isplitl [HO]; · iexact HO
  iintro ⟨⟨%Wf4, HO⟩, Hs, Hp⟩
  iapply (wait_step m κ c false 5 (P := holds m wo3 c fullShare (WoB m (opp c))) sOr3 (wo_credit _ _) Entails.refl (mayWait_ow c _ 6 (by decide)))
  isplitr; · iexact HR
  isplitr; · iexact Hlev
  isplitl [Ht']; · iexact Ht'
  isplitl [HO]; · iexact HO
  iintro ⟨⟨%Wf5, HO⟩, Hs', Hp'⟩
  rw [wp_ret]; imodintro
  rw [woV_load]
  iapply Hk; iframe
  iexists _; iexact HO

set_option maxHeartbeats 1000000 in
/-- Hop 3: the queries, the first head stored. -/
theorem part21_run (κ : GSem nD τ sig → ℕ) (c : Dev nD) (b : FVec F S256x256 .f32) (v716 v722 : BitVec 32) (v721 : BitVec 1) (x : Vec F S256x512 .bf16) (w : Vec F S512x256 .bf16) (K V : Vec F S16x2x128x64 .bf16)
    (P : Fin 4 → FVec F S256x64 .bf16) (h0 : k0_pay40 b x (up1 w) (blk c 2 0 K) (blk c 2 0 V) = P 0)
    (Q : (Σ' (v723 : BitVec 32) (v728 : FVec F S256x256 .bf16), BitVec 32) → sProp (MT nD τ sig Unit (Elt F) ℕ UU ℕ)) :
    iprop(pt c cc0_scratch2 x
      ∗ holds m wq3 c fullShare (w)
      ∗ (∃ g, pt c cc0_scratch3 g)
      ∗ pt c cc0_stg2_0 K
      ∗ pt c cc0_stg3_0 V
      ∗ (∀ u v, pt c cc0_scratch2 x ∗ holds m wq3 c fullShare (w) ∗ (∃ g, ⌜Cols 1 P g⌝ ∗ pt c cc0_scratch3 g) ∗ pt c cc0_stg2_0 K ∗ pt c cc0_stg3_0 V -∗ Q ⟨u, k0_pay39 x (up1 w), v⟩))
      ⊢ wp frame (wpE (defs₀ (F := F)) 𝒱₀ c none) Set.univ (k0_part21 (F := F) (Memref.whole cc0_stg0_0) (hstage0_0 0) (Memref.whole cc0_stg1_0) (hstage0_1 0) (Memref.whole cc0_stg2_0) (hstage0_2 0) (Memref.whole cc0_stg3_0) (hstage0_3 0) (Memref.whole cc0_stg4_0) (hstage0_4 0) (Memref.whole cc0_stg5_0) (hstage0_5 0) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c b v716 v721 v722) Q := by
  rw [k0_part21_eq_skeleton]; unfold k0_part21_skel
  simp only [semSignalWord, semWaitWord, Prog.lift, Prog.bind_op, Prog.bind_ret, Prog.pure_eq_ret, Prog.bind_assoc, wp_deviceId]
  iintro ⟨Hx, Hq, ⟨%g, Hg⟩, HK, HV, Hk⟩
  sl_exec
  rw [wp_ret]; imodintro
  rw [load_x2, wqV_load, load_k c 2 0 2#32 0#32 rfl rfl, load_v c 2 0 2#32 0#32 rfl rfl]
  iapply Hk; iframe
  iexists _; isplitr; swap; · iexact Hg
  ipureintro; exact cols_store (cols_zero P g) (by decide) rfl _ _ h0

set_option maxHeartbeats 1000000 in
/-- Hop 3: the second head stored, the third's scores begun. -/
theorem part22_run (κ : GSem nD τ sig → ℕ) (c : Dev nD) (b : FVec F S256x256 .f32) (v723 v759 : BitVec 32) (q : FVec F S256x256 .bf16) (K V : Vec F S16x2x128x64 .bf16)
    (P : Fin 4 → FVec F S256x64 .bf16) (h1 : k0_pay41 b q (blk c 2 1 K) (blk c 2 1 V) = P 1)
    (Q : (Σ' (v790 : BitVec 32) (v796 : FVec F S256x256 .f32), FVec F S256x256 .f32) → sProp (MT nD τ sig Unit (Elt F) ℕ UU ℕ)) :
    iprop((∃ g, ⌜Cols 1 P g⌝ ∗ pt c cc0_scratch3 g)
      ∗ pt c cc0_stg2_0 K
      ∗ pt c cc0_stg3_0 V
      ∗ (∀ v, (∃ g, ⌜Cols 2 P g⌝ ∗ pt c cc0_scratch3 g) ∗ pt c cc0_stg2_0 K ∗ pt c cc0_stg3_0 V -∗ Q ⟨v, k0_pay42 q (blk c 2 2 K), k0_pay43⟩))
      ⊢ wp frame (wpE (defs₀ (F := F)) 𝒱₀ c none) Set.univ (k0_part22 (F := F) (Memref.whole cc0_stg0_0) (hstage0_0 0) (Memref.whole cc0_stg1_0) (hstage0_1 0) (Memref.whole cc0_stg2_0) (hstage0_2 0) (Memref.whole cc0_stg3_0) (hstage0_3 0) (Memref.whole cc0_stg4_0) (hstage0_4 0) (Memref.whole cc0_stg5_0) (hstage0_5 0) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c b v723 q v759) Q := by
  rw [k0_part22_eq_skeleton]; unfold k0_part22_skel
  simp only [semSignalWord, semWaitWord, Prog.lift, Prog.bind_op, Prog.bind_ret, Prog.pure_eq_ret, Prog.bind_assoc, wp_deviceId]
  iintro ⟨⟨%g, %hg, Hg⟩, HK, HV, Hk⟩
  sl_exec
  rw [wp_ret]; imodintro
  rw [load_k c 2 2 2#32 2#32 rfl rfl]
  iapply Hk; iframe
  iexists _; isplitr; swap; · iexact Hg
  ipureintro; exact cols_store hg (by decide) rfl _ _ h1

set_option maxHeartbeats 1000000 in
/-- Hop 3: the third head stored, the last head's weights. -/
theorem part23_run (κ : GSem nD τ sig → ℕ) (c : Dev nD) (b : FVec F S256x256 .f32) (v723 v790 : BitVec 32) (q : FVec F S256x256 .bf16) (v796 v797 : FVec F S256x256 .f32) (K V : Vec F S16x2x128x64 .bf16)
    (P : Fin 4 → FVec F S256x64 .bf16) (h2 : k0_pay44 b v796 v797 (blk c 2 2 V) = P 2)
    (Q : (Σ' (v820 : BitVec 32), FVec F S256x256 .bf16) → sProp (MT nD τ sig Unit (Elt F) ℕ UU ℕ)) :
    iprop((∃ g, ⌜Cols 2 P g⌝ ∗ pt c cc0_scratch3 g)
      ∗ pt c cc0_stg2_0 K
      ∗ pt c cc0_stg3_0 V
      ∗ (∀ v, (∃ g, ⌜Cols 3 P g⌝ ∗ pt c cc0_scratch3 g) ∗ pt c cc0_stg2_0 K ∗ pt c cc0_stg3_0 V -∗ Q ⟨v, k0_pay45 b q (blk c 2 3 K)⟩))
      ⊢ wp frame (wpE (defs₀ (F := F)) 𝒱₀ c none) Set.univ (k0_part23 (F := F) (Memref.whole cc0_stg0_0) (hstage0_0 0) (Memref.whole cc0_stg1_0) (hstage0_1 0) (Memref.whole cc0_stg2_0) (hstage0_2 0) (Memref.whole cc0_stg3_0) (hstage0_3 0) (Memref.whole cc0_stg4_0) (hstage0_4 0) (Memref.whole cc0_stg5_0) (hstage0_5 0) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c b v723 q v790 v796 v797) Q := by
  rw [k0_part23_eq_skeleton]; unfold k0_part23_skel
  simp only [semSignalWord, semWaitWord, Prog.lift, Prog.bind_op, Prog.bind_ret, Prog.pure_eq_ret, Prog.bind_assoc, wp_deviceId]
  iintro ⟨⟨%g, %hg, Hg⟩, HK, HV, Hk⟩
  sl_exec
  rw [wp_ret]; imodintro
  rw [load_k c 2 3 2#32 3#32 rfl rfl]
  iapply Hk; iframe
  iexists _; isplitr; swap; · iexact Hg
  ipureintro; exact cols_store hg (by decide) rfl _ _ h2

set_option maxHeartbeats 1000000 in
/-- Hop 3: the last head stored, the contribution added, the result stored; copy 0 off. -/
theorem part24_run (κ : GSem nD τ sig → ℕ) (c : Dev nD) (v820 : BitVec 32) (acc : FVec F S256x512 .f32) (v839 : FVec F S256x256 .bf16) (w : Vec F S256x512 .bf16) (K V : Vec F S16x2x128x64 .bf16) (W : Waits sig Unit)
    (P : Fin 4 → FVec F S256x64 .bf16) (h3 : k0_pay46 v839 (blk c 2 3 V) = P 3)
    (Q : (PUnit) → sProp (MT nD τ sig Unit (Elt F) ℕ UU ℕ)) :
    iprop(records m κ
      ∗ levAts L lv
      ∗ (∃ g, ⌜Cols 3 P g⌝ ∗ pt c cc0_scratch3 g)
      ∗ pt c cc0_stg3_0 V
      ∗ holds m wo3 c fullShare (w)
      ∗ (∃ f, pt c cc0_stg5_0 f)
      ∗ waitTok c true 0
      ∗ owes (c : Thread nD τ) (ow c 6) W
      ∗ ((∃ g, pt c cc0_scratch3 g) ∗ pt c cc0_stg3_0 V ∗ holds m wo3 c fullShare (w) ∗ pt c cc0_stg5_0 (k0_pay47 acc (ctxV P) (up2 w)) ∗ (∃ W', owes (c : Thread nD τ) (ow c 6) W') ∗ spent c true 0 ∗ holds m wq0 c lendA (WqB m c) -∗ Q ⟨⟩))
      ⊢ wp frame (wpE (defs₀ (F := F)) 𝒱₀ c none) Set.univ (k0_part24 (F := F) (Memref.whole cc0_stg0_0) (hstage0_0 0) (Memref.whole cc0_stg1_0) (hstage0_1 0) (Memref.whole cc0_stg2_0) (hstage0_2 0) (Memref.whole cc0_stg3_0) (hstage0_3 0) (Memref.whole cc0_stg4_0) (hstage0_4 0) (Memref.whole cc0_stg5_0) (hstage0_5 0) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c acc v820 v839) Q := by
  rw [k0_part24_eq_skeleton]; unfold k0_part24_skel
  simp only [semSignalWord, semWaitWord, Prog.lift, Prog.bind_op, Prog.bind_ret, Prog.pure_eq_ret, Prog.bind_assoc, wp_deviceId]
  iintro ⟨#HR, #Hlev, ⟨%g, %hg, Hg⟩, HV, Ho, ⟨%fo, Hout⟩, Ht, HO, Hk⟩
  sl_exec
  have hc : part24_run.sl.v849 c v839 V g = ctxV P :=
    (load_ctx inb_S256x256_S256x256_0_0 _).trans (cols_four (cols_store hg (by decide) rfl inb_S256x256_S256x64_0_192 _ h3))
  rw [store_out, hc, woV_load]
  iapply (wait_step m κ c true 0 (P := holds m wq0 c lendA (WqB m c)) sQs0 (wq_credit _ _) Entails.refl (mayWait_ow c _ 6 (by decide)))
  isplitr; · iexact HR
  isplitr; · iexact Hlev
  isplitl [Ht]; · iexact Ht
  isplitl [HO]; · iexact HO
  iintro ⟨⟨%Wt0, HO⟩, Hs, Hp⟩
  rw [wp_ret]; imodintro
  iapply Hk; iframe
  isplitl [Hg]; · iexists _; iexact Hg
  iexists _; iexact HO

set_option maxHeartbeats 1000000 in
/-- Copies 1 to 4 off. -/
theorem part25_run (κ : GSem nD τ sig → ℕ) (c : Dev nD) (W : Waits sig Unit)
    (Q : (PUnit) → sProp (MT nD τ sig Unit (Elt F) ℕ UU ℕ)) :
    iprop(records m κ
      ∗ levAts L lv
      ∗ waitTok c true 1
      ∗ waitTok c true 2
      ∗ waitTok c true 3
      ∗ waitTok c true 4
      ∗ owes (c : Thread nD τ) (ow c 6) W
      ∗ ((∃ W', owes (c : Thread nD τ) (ow c 6) W') ∗ spent c true 1 ∗ holds m wo0 c lendA (WoB m c) ∗ spent c true 2 ∗ holds m wq0 c lendB (WqB m c) ∗ spent c true 3 ∗ holds m wo0 c lendB (WoB m c) ∗ spent c true 4 ∗ holds m wq1 c fullShare.right (WqB m (left c)) -∗ Q ⟨⟩))
      ⊢ wp frame (wpE (defs₀ (F := F)) 𝒱₀ c none) Set.univ (k0_part25 (F := F) (Memref.whole cc0_stg0_0) (hstage0_0 0) (Memref.whole cc0_stg1_0) (hstage0_1 0) (Memref.whole cc0_stg2_0) (hstage0_2 0) (Memref.whole cc0_stg3_0) (hstage0_3 0) (Memref.whole cc0_stg4_0) (hstage0_4 0) (Memref.whole cc0_stg5_0) (hstage0_5 0) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 ) Q := by
  rw [k0_part25_eq_skeleton]; unfold k0_part25_skel
  simp only [semSignalWord, semWaitWord, Prog.lift, Prog.bind_op, Prog.bind_ret, Prog.pure_eq_ret, Prog.bind_assoc, wp_deviceId]
  iintro ⟨#HR, #Hlev, Ht1, Ht2, Ht3, Ht4, HO, Hk⟩
  iapply (wait_step m κ c true 1 (P := holds m wo0 c lendA (WoB m c)) sOs0 (wo_credit _ _) Entails.refl (mayWait_ow c _ 6 (by decide)))
  isplitr; · iexact HR
  isplitr; · iexact Hlev
  isplitl [Ht1]; · iexact Ht1
  isplitl [HO]; · iexact HO
  iintro ⟨⟨%Wt1, HO⟩, Hs1, Hp1⟩
  iapply (wait_step m κ c true 2 (P := holds m wq0 c lendB (WqB m c)) sQs1 (wq_credit _ _) Entails.refl (mayWait_ow c _ 6 (by decide)))
  isplitr; · iexact HR
  isplitr; · iexact Hlev
  isplitl [Ht2]; · iexact Ht2
  isplitl [HO]; · iexact HO
  iintro ⟨⟨%Wt2, HO⟩, Hs2, Hp2⟩
  iapply (wait_step m κ c true 3 (P := holds m wo0 c lendB (WoB m c)) sOs1 (wo_credit _ _) Entails.refl (mayWait_ow c _ 6 (by decide)))
  isplitr; · iexact HR
  isplitr; · iexact Hlev
  isplitl [Ht3]; · iexact Ht3
  isplitl [HO]; · iexact HO
  iintro ⟨⟨%Wt3, HO⟩, Hs3, Hp3⟩
  iapply (wait_step m κ c true 4 (P := holds m wq1 c fullShare.right (WqB m (left c))) sQs2 (wq_credit _ _) Entails.refl (mayWait_ow c _ 6 (by decide)))
  isplitr; · iexact HR
  isplitr; · iexact Hlev
  isplitl [Ht4]; · iexact Ht4
  isplitl [HO]; · iexact HO
  iintro ⟨⟨%Wt4, HO⟩, Hs4, Hp4⟩
  rw [wp_ret]; imodintro
  iapply Hk; iframe
  iexists _; iexact HO

end Cert.KernelIdeal.Proto
-- ==== Proof.Run.lean ====
module

public import proofs.«01_k».proof.Proof.Body

@[expose] public section

noncomputable section

namespace Cert.KernelIdeal.Proto

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ)

/-- The operands of the kernel on device `c`, as its pipeline stages them. -/
def XB (c : Dev nD) : Vec F S2x128x512 .bf16 := V1 m c main_arg0
/-- The keys that the kernel is given on a device. -/
def KB (c : Dev nD) : Vec F S16x2x128x64 .bf16 := V1 m c main_v15
/-- The values that the kernel is given on a device. -/
def VB (c : Dev nD) : Vec F S16x2x128x64 .bf16 := V1 m c main_v16
/-- What the kernel stores on device `c`. -/
def outB (c : Dev nD) : Vec F S2x128x512 .f32 := outV c (XB m) (WqB m) (WoB m) (KB m c) (VB m c)

/-- The slots that the left neighbour fills, given to it at the barrier. -/
theorem barPay_give_left (c : Dev nD) : iprop(holdsAny (F := F) wq1 c ∗ holdsAny wo1 c ∗ holdsAny wq3 c
      ∗ reached ER (xCell c false 0) 0 ∗ reached ER (xCell c false 1) 0 ∗ reached ER (xCell c false 4) 0) ⊢ barPay (left c) true := by
  dsimp only [barPay]; rw [right_left]
  iintro ⟨H1, H2, H3, H4, H5, H6⟩
  isplitl [H1 H2 H3]; · iframe
  iframe
/-- The slots that the right neighbour fills, given to it at the barrier. -/
theorem barPay_give_right (c : Dev nD) : iprop(holdsAny (F := F) wq2 c ∗ holdsAny wo2 c ∗ holdsAny wo3 c
      ∗ reached ER (xCell c false 2) 0 ∗ reached ER (xCell c false 3) 0 ∗ reached ER (xCell c false 5) 0) ⊢ barPay (right c) false := by
  dsimp only [barPay]; rw [left_right]
  iintro ⟨H1, H2, H3, H4, H5, H6⟩
  isplitl [H1 H2 H3]; · iframe
  iframe
/-- The right neighbour's slots, taken at the barrier. -/
theorem barPay_take_right (c : Dev nD) : barPay (F := F) c true ⊢ iprop(holdsAny wq1 (peer 0 c) ∗ holdsAny wo1 (peer 1 c) ∗ holdsAny wq3 (peer 4 c)
      ∗ reached ER (xCell (peer 0 c) false 0) 0 ∗ reached ER (xCell (peer 1 c) false 1) 0 ∗ reached ER (xCell (peer 4 c) false 4) 0) := by
  show iprop((holdsAny wq1 (peer 0 c) ∗ holdsAny wo1 (peer 1 c) ∗ holdsAny wq3 (peer 4 c))
      ∗ reached ER (xCell (peer 0 c) false 0) 0 ∗ reached ER (xCell (peer 1 c) false 1) 0 ∗ reached ER (xCell (peer 4 c) false 4) 0) ⊢ _
  iintro ⟨⟨H1, H2, H3⟩, H4, H5, H6⟩
  iframe
/-- The left neighbour's slots, taken at the barrier. -/
theorem barPay_take_left (c : Dev nD) : barPay (F := F) c false ⊢ iprop(holdsAny wq2 (peer 2 c) ∗ holdsAny wo2 (peer 3 c) ∗ holdsAny wo3 (peer 5 c)
      ∗ reached ER (xCell (peer 2 c) false 2) 0 ∗ reached ER (xCell (peer 3 c) false 3) 0 ∗ reached ER (xCell (peer 5 c) false 5) 0) := by
  show iprop((holdsAny wq2 (peer 2 c) ∗ holdsAny wo2 (peer 3 c) ∗ holdsAny wo3 (peer 5 c))
      ∗ reached ER (xCell (peer 2 c) false 2) 0 ∗ reached ER (xCell (peer 3 c) false 3) 0 ∗ reached ER (xCell (peer 5 c) false 5) 0) ⊢ _
  iintro ⟨⟨H1, H2, H3⟩, H4, H5, H6⟩
  iframe
/-- What a copy needs at its sender. -/
theorem sendTok_intro (c : Dev nD) (j : Fin 6) : iprop(dutyTok ER (xCell c true j) 0 false ∗ reached ER (xCell c true j) 0
    ∗ dutyTok ER (xCell (peer j c) false j) 0 false ∗ reached ER (xCell (peer j c) false j) 0) ⊢ (sendTok c j : sProp 𝕄) := Entails.refl
/-- What a wait needs. -/
theorem waitTok_intro (c : Dev nD) (b : Bool) (j : Fin 6) : iprop(cred (tallyAt (xCell c b j) () N) ∗ atPos ER (xCell c b j) 0 ∅ 0) ⊢ (waitTok c b j : sProp 𝕄) := Entails.refl
/-- After its round a transfer's cell gives its counter back, at zero. -/
theorem close_x (κ : GSem nD τ sig → ℕ) (c : Dev nD) (b : Bool) (j : Fin 6) :
    iprop(records m κ ∗ spent c b j) ⊢ (|={Set.univ}=> semVal (xCell c b j) 0 : sProp 𝕄) := by
  unfold spent
  iintro ⟨#HR, H⟩
  iapply (close m (κ (xCell c b j)) (xCell c b j))
  isplitr; · iapply (inv_x m κ c b j); iexact HR
  iexact H
/-- A view with known contents is a view with some. -/
theorem holds_any {sp : Space} {s : Shape} {e : EltTy} (M : Memref sig .tc sp s e) (c : Dev nD) (X : s.Idx → Elt F e) :
    holds m M c fullShare X ⊢ holdsAny M c := by
  unfold holdsAny; iintro H; iexists _; iexact H
/-- Two halves of a slot make it whole. -/
theorem holds_join {sp : Space} {s : Shape} {e : EltTy} (M : Memref sig .tc sp s e) (c : Dev nD) (q : PosShare TreeShare) (X : s.Idx → Elt F e) :
    iprop(holds m M c q.left X ∗ holds m M c q.right X) ⊢ holds m M c q X := (pointsTo_share (PosShare.mem_left_op_right q)).2

/-- What the kernel body starts from on device `c`. -/
def bodyPre (κ : GSem nD τ sig → ℕ) (c : Dev nD) (W : Waits sig Unit) : sProp 𝕄 :=
  iprop(opened m κ c ∗ credits c ∗ levAts L lv ∗ owes (c : Thread nD τ) (O₀ c) W
    ∗ (pt c cc0_stg0_0 (XB m c) ∗ pt c cc0_stg1_0 (WqB m c) ∗ pt c cc0_stg2_0 (KB m c) ∗ pt c cc0_stg3_0 (VB m c) ∗ pt c cc0_stg4_0 (WoB m c)
      ∗ (∃ f, pt c cc0_stg5_0 f))
    ∗ anyBuf c cc0_scratch0 ∗ anyBuf c cc0_scratch1 ∗ (∃ f, pt c cc0_scratch2 f) ∗ (∃ f, pt c cc0_scratch3 f))
/-- What it ends with: the result stored, every buffer back, every cell closed at zero. -/
def bodyPost (c : Dev nD) : sProp 𝕄 :=
  iprop((∃ W', owes (c : Thread nD τ) 0 W') ∗ semVal (barCell c) 0 ∗ (bigSep Finset.univ fun p : XI => semVal (xCell c p.1 p.2) 0)
    ∗ (pt c cc0_stg0_0 (XB m c) ∗ pt c cc0_stg1_0 (WqB m c) ∗ pt c cc0_stg2_0 (KB m c) ∗ pt c cc0_stg3_0 (VB m c) ∗ pt c cc0_stg4_0 (WoB m c)
      ∗ pt c cc0_stg5_0 (outB m c))
    ∗ anyBuf c cc0_scratch0 ∗ anyBuf c cc0_scratch1 ∗ (∃ f, pt c cc0_scratch2 f) ∗ (∃ f, pt c cc0_scratch3 f))

set_option maxHeartbeats 4000000 in
/-- The whole body on device `c`. -/
theorem body_run (κ : GSem nD τ sig → ℕ) (c : Dev nD) (W : Waits sig Unit) :
    bodyPre m κ c W ⊢ wp frame (wpE (defs₀ (F := F)) 𝒱₀ c none) Set.univ (cc0_body (F := F) (Memref.whole cc0_stg0_0) (hstage0_0 0) (Memref.whole cc0_stg1_0) (hstage0_1 0) (Memref.whole cc0_stg2_0) (hstage0_2 0) (Memref.whole cc0_stg3_0) (hstage0_3 0) (Memref.whole cc0_stg4_0) (hstage0_4 0) (Memref.whole cc0_stg5_0) (hstage0_5 0) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7) (fun _ => bodyPost m c) := by
  unfold bodyPre opened credits toksOf
  rw [bigSep_XI, bigSep_fin6, bigSep_fin6, bigSep_fin6]
  iintro ⟨⟨#HR, Ha, ⟨⟨At0, #Rt0⟩, ⟨At1, #Rt1⟩, ⟨At2, #Rt2⟩, ⟨At3, #Rt3⟩, ⟨At4, #Rt4⟩, ⟨At5, #Rt5⟩, ⟨Af0, #Rf0⟩, ⟨Af1, #Rf1⟩, ⟨Af2, #Rf2⟩, ⟨Af3, #Rf3⟩, ⟨Af4, #Rf4⟩, ⟨Af5, #Rf5⟩⟩, Tl, Tr, ⟨T0, T1, T2, T3, T4, T5⟩, ⟨U0, U1, U2, U3, U4, U5⟩⟩, ⟨Cb, C0, C1, C2, C3, C4, C5⟩, #Hlev, HO,
    ⟨Hx, Hw, HK, HV, Hwo, Hout⟩, Hs0, Hs1, Hs2, Hs3⟩
  icases (wq_split c) $$ Hs0 with ⟨Q0, Q1, Q2, Q3⟩
  icases (wo_split c) $$ Hs1 with ⟨O0, O1, O2, O3⟩
  ihave BL := (barPay_give_left c) $$ [Q1 O1 Q3]
  · isplitl [Q1]; · iexact Q1
    isplitl [O1]; · iexact O1
    isplitl [Q3]; · iexact Q3
    isplitr; · iexact Rf0
    isplitr; · iexact Rf1
    iexact Rf4
  ihave BR := (barPay_give_right c) $$ [Q2 O2 O3]
  · isplitl [Q2]; · iexact Q2
    isplitl [O2]; · iexact O2
    isplitl [O3]; · iexact O3
    isplitr; · iexact Rf2
    isplitr; · iexact Rf3
    iexact Rf5
  rw [cc0_body_eq_skeleton]; unfold cc0_body_skel
  rw [wp_bind]
  iapply (part1_run m κ c W _)
  isplitr; · iexact HR
  isplitr; · iexact Hlev
  isplitl [Cb]; · iexact Cb
  isplitl [HO]; · iexact HO
  isplitl [Ha]; · iexact Ha
  isplitl [Tr]; · iexact Tr
  isplitl [BL]; · iexact BL
  isplitl [Tl]; · iexact Tl
  isplitl [BR]; · iexact BR
  iintro %v2 %v14 %v25 ⟨⟨%W1, HO⟩, Ha, BL, BR⟩
  try dsimp only
  icases (barPay_take_right c) $$ BR with ⟨Q1, O1, Q3, #Rp0, #Rp1, #Rp4⟩
  icases (barPay_take_left c) $$ BL with ⟨Q2, O2, O3, #Rp2, #Rp3, #Rp5⟩
  ihave S0 := (sendTok_intro c 0) $$ [T0 U0]
  · isplitl [T0]; · iexact T0
    isplitr; · iexact Rt0
    isplitl [U0]; · iexact U0
    iexact Rp0
  ihave Wf0 := (waitTok_intro c false 0) $$ [C0 Af0]
  · isplitl [C0]; · iexact C0
    iexact Af0
  ihave S1 := (sendTok_intro c 1) $$ [T1 U1]
  · isplitl [T1]; · iexact T1
    isplitr; · iexact Rt1
    isplitl [U1]; · iexact U1
    iexact Rp1
  ihave Wf1 := (waitTok_intro c false 1) $$ [C1 Af1]
  · isplitl [C1]; · iexact C1
    iexact Af1
  ihave S2 := (sendTok_intro c 2) $$ [T2 U2]
  · isplitl [T2]; · iexact T2
    isplitr; · iexact Rt2
    isplitl [U2]; · iexact U2
    iexact Rp2
  ihave Wf2 := (waitTok_intro c false 2) $$ [C2 Af2]
  · isplitl [C2]; · iexact C2
    iexact Af2
  ihave S3 := (sendTok_intro c 3) $$ [T3 U3]
  · isplitl [T3]; · iexact T3
    isplitr; · iexact Rt3
    isplitl [U3]; · iexact U3
    iexact Rp3
  ihave Wf3 := (waitTok_intro c false 3) $$ [C3 Af3]
  · isplitl [C3]; · iexact C3
    iexact Af3
  ihave S4 := (sendTok_intro c 4) $$ [T4 U4]
  · isplitl [T4]; · iexact T4
    isplitr; · iexact Rt4
    isplitl [U4]; · iexact U4
    iexact Rp4
  ihave Wf4 := (waitTok_intro c false 4) $$ [C4 Af4]
  · isplitl [C4]; · iexact C4
    iexact Af4
  ihave S5 := (sendTok_intro c 5) $$ [T5 U5]
  · isplitl [T5]; · iexact T5
    isplitr; · iexact Rt5
    isplitl [U5]; · iexact U5
    iexact Rp5
  ihave Wf5 := (waitTok_intro c false 5) $$ [C5 Af5]
  · isplitl [C5]; · iexact C5
    iexact Af5
  rw [wp_bind]
  iapply (part2_run m κ c v25 W1 (XB m c) _)
  isplitr; · iexact HR
  isplitl [Hx]; · iexact Hx
  isplitl [Hw]; · iexact Hw
  isplitl [Hwo]; · iexact Hwo
  isplitl [Q0]; · iexact Q0
  isplitl [O0]; · iexact O0
  isplitl [Hs2]; · iexact Hs2
  isplitl [HO]; · iexact HO
  isplitl [S0]; · iexact S0
  isplitl [Q1]; · iexact Q1
  iintro %u2 ⟨Hx, Hw, Hwo, Q0, Q0B, O0, Hs2, HO, C0⟩
  try dsimp only
  rw [wp_bind]
  iapply (part3_run m κ c v14 v25 u2 W1 _)
  isplitr; · iexact HR
  isplitl [O0]; · iexact O0
  isplitl [Q0B]; · iexact Q0B
  isplitl [HO]; · iexact HO
  isplitl [S1]; · iexact S1
  isplitl [O1]; · iexact O1
  isplitl [S2]; · iexact S2
  isplitl [Q2]; · iexact Q2
  isplitl [S3]; · iexact S3
  isplitl [O2]; · iexact O2
  iintro ⟨O0, HO, C1, C2, C3⟩
  try dsimp only
  rw [wp_bind]
  iapply (part4_run κ c _ _ _)
  try dsimp only
  rw [wp_bind]
  iapply (part5_run κ c _ _ _ _ _ _)
  try dsimp only
  rw [wp_bind]
  iapply (part6_run κ c _ _ _ _ _ _ _ _)
  iintro %v223
  try dsimp only
  rw [show k0_pay10 (F := F) _ _ _ _ _ _ = biasV from rfl]
  rw [wp_bind]
  iapply (part7_run m κ c biasV v223 4#32 0#32 (k0_pay3 (XB m c)) (WqB m c) (KB m c) (VB m c) _)
  isplitl [Hs2]; · iexact Hs2
  isplitl [Q0]; · iexact Q0
  isplitl [HK]; · iexact HK
  isplitl [HV]; · iexact HV
  iintro %v233 ⟨Hs2, Q0, HK, HV⟩
  try dsimp only
  rw [wp_bind]
  iapply (part8_run κ c biasV v233 _ _ _ (KB m c) (VB m c) (heads c 0 biasV (qV (k0_pay3 (XB m c)) (WqB m c)) (KB m c) (VB m c)) rfl rfl _)
  isplitl [Hs3]; · iexact Hs3
  isplitl [HK]; · iexact HK
  isplitl [HV]; · iexact HV
  iintro %v299 %u8 ⟨Hs3, HK, HV⟩
  try dsimp only
  rw [wp_bind]
  iapply (part9_run κ c biasV v233 v299 u8 _ (KB m c) (VB m c) (heads c 0 biasV (qV (k0_pay3 (XB m c)) (WqB m c)) (KB m c) (VB m c)) rfl _)
  isplitl [Hs3]; · iexact Hs3
  isplitl [HK]; · iexact HK
  isplitl [HV]; · iexact HV
  iintro %v330 ⟨Hs3, HK, HV⟩
  try dsimp only
  rw [wp_bind]
  iapply (part10_run m κ c biasV v14 v330 _ (WoB m c) (KB m c) (VB m c) W1 (heads c 0 biasV (qV (k0_pay3 (XB m c)) (WqB m c)) (KB m c) (VB m c)) rfl _)
  isplitr; · iexact HR
  isplitr; · iexact Hlev
  isplitl [Hs3]; · iexact Hs3
  isplitl [HV]; · iexact HV
  isplitl [O0]; · iexact O0
  isplitl [Wf0]; · iexact Wf0
  isplitl [HO]; · iexact HO
  iintro ⟨Hs3, HV, O0, ⟨%W10, HO⟩, Ef0, Q1⟩
  try dsimp only
  rw [wp_bind]
  iapply (part11_run m κ c v2 v14 v25 (k0_pay3 (XB m c)) W10 _)
  isplitr; · iexact HR
  isplitr; · iexact Hlev
  isplitl [Hs2]; · iexact Hs2
  isplitl [Q1]; · iexact Q1
  isplitl [HO]; · iexact HO
  isplitl [S4]; · iexact S4
  isplitl [Q3]; · iexact Q3
  isplitl [Wf1]; · iexact Wf1
  iintro %v399 ⟨Hs2, Q1, C4, ⟨%W11, HO⟩, Ef1, O1⟩
  try dsimp only
  rw [wp_bind]
  iapply (part12_run m κ c biasV v399 (k0_pay3 (XB m c)) (WqB m (left c)) (KB m c) (VB m c) (heads c 3 biasV (qV (k0_pay3 (XB m c)) (WqB m (left c))) (KB m c) (VB m c)) rfl _)
  isplitl [Q1]; · iexact Q1
  isplitl [Hs3]; · iexact Hs3
  isplitl [HK]; · iexact HK
  isplitl [HV]; · iexact HV
  iintro %v436 ⟨Q1, Hs3, HK, HV⟩
  try dsimp only
  rw [wp_bind]
  iapply (part13_run κ c biasV v399 v436 _ _ (KB m c) (VB m c) (heads c 3 biasV (qV (k0_pay3 (XB m c)) (WqB m (left c))) (KB m c) (VB m c)) rfl _)
  isplitl [Hs3]; · iexact Hs3
  isplitl [HK]; · iexact HK
  isplitl [HV]; · iexact HV
  iintro %v466 ⟨Hs3, HK, HV⟩
  try dsimp only
  rw [wp_bind]
  iapply (part14_run κ c biasV v399 v466 _ _ _ (KB m c) (VB m c) (heads c 3 biasV (qV (k0_pay3 (XB m c)) (WqB m (left c))) (KB m c) (VB m c)) rfl _)
  isplitl [Hs3]; · iexact Hs3
  isplitl [HK]; · iexact HK
  isplitl [HV]; · iexact HV
  iintro ⟨Hs3, HK, HV⟩
  try dsimp only
  rw [wp_bind]
  iapply (part15_run m κ c v14 _ _ _ (WoB m (left c)) W11 (heads c 3 biasV (qV (k0_pay3 (XB m c)) (WqB m (left c))) (KB m c) (VB m c)) rfl _)
  isplitr; · iexact HR
  isplitr; · iexact Hlev
  isplitl [Hs3]; · iexact Hs3
  isplitl [O1]; · iexact O1
  isplitl [Wf3]; · iexact Wf3
  isplitl [HO]; · iexact HO
  iintro ⟨Hs3, O1, ⟨%W15, HO⟩, Ef3, O2⟩
  try dsimp only
  rw [wp_bind]
  iapply (part16_run m κ c v2 v14 (k0_pay3 (XB m c)) (KB m c) (VB m c) W15 _)
  isplitr; · iexact HR
  isplitr; · iexact Hlev
  isplitl [Hs2]; · iexact Hs2
  isplitl [HK]; · iexact HK
  isplitl [O2]; · iexact O2
  isplitl [HO]; · iexact HO
  isplitl [S5]; · iexact S5
  isplitl [O3]; · iexact O3
  isplitl [Wf2]; · iexact Wf2
  iintro %v566 %v573 ⟨Hs2, HK, O2, C5, ⟨%W16, HO⟩, Ef2, Q2⟩
  try dsimp only
  rw [wp_bind]
  iapply (part17_run κ c biasV v566 v573 _ _ _ (KB m c) (VB m c) (heads c 1 biasV (qV (k0_pay3 (XB m c)) (WqB m (right c))) (KB m c) (VB m c)) rfl _)
  isplitl [Hs3]; · iexact Hs3
  isplitl [HK]; · iexact HK
  isplitl [HV]; · iexact HV
  iintro %v603 ⟨Hs3, HK, HV⟩
  try dsimp only
  rw [wp_bind]
  iapply (part18_run κ c biasV v566 v603 _ _ (KB m c) (VB m c) (heads c 1 biasV (qV (k0_pay3 (XB m c)) (WqB m (right c))) (KB m c) (VB m c)) rfl _)
  isplitl [Hs3]; · iexact Hs3
  isplitl [HK]; · iexact HK
  isplitl [HV]; · iexact HV
  iintro ⟨Hs3, HK, HV⟩
  try dsimp only
  rw [wp_bind]
  iapply (part19_run κ c biasV v566 _ _ _ _ (KB m c) (VB m c) (heads c 1 biasV (qV (k0_pay3 (XB m c)) (WqB m (right c))) (KB m c) (VB m c)) rfl rfl _)
  isplitl [Hs3]; · iexact Hs3
  isplitl [HK]; · iexact HK
  isplitl [HV]; · iexact HV
  iintro ⟨Hs3, HK, HV⟩
  try dsimp only
  rw [wp_bind]
  iapply (part20_run m κ c v2 v14 _ _ (WoB m (right c)) W16 _)
  isplitr; · iexact HR
  isplitr; · iexact Hlev
  isplitl [O2]; · iexact O2
  isplitl [Wf4]; · iexact Wf4
  isplitl [Wf5]; · iexact Wf5
  isplitl [HO]; · iexact HO
  iintro %v716 %v721 %v722 ⟨O2, ⟨%W20, HO⟩, Ef4, Q3, Ef5, O3⟩
  try dsimp only
  rw [wp_bind]
  iapply (part21_run m κ c biasV v716 v722 v721 (k0_pay3 (XB m c)) (WqB m (opp c)) (KB m c) (VB m c) (heads c 2 biasV (qV (k0_pay3 (XB m c)) (WqB m (opp c))) (KB m c) (VB m c)) rfl _)
  isplitl [Hs2]; · iexact Hs2
  isplitl [Q3]; · iexact Q3
  isplitl [Hs3]; · iexact Hs3
  isplitl [HK]; · iexact HK
  isplitl [HV]; · iexact HV
  iintro %v723 %v759 ⟨Hs2, Q3, Hs3, HK, HV⟩
  try dsimp only
  rw [wp_bind]
  iapply (part22_run κ c biasV v723 v759 _ (KB m c) (VB m c) (heads c 2 biasV (qV (k0_pay3 (XB m c)) (WqB m (opp c))) (KB m c) (VB m c)) rfl _)
  isplitl [Hs3]; · iexact Hs3
  isplitl [HK]; · iexact HK
  isplitl [HV]; · iexact HV
  iintro %v790 ⟨Hs3, HK, HV⟩
  try dsimp only
  rw [wp_bind]
  iapply (part23_run κ c biasV v723 v790 _ _ _ (KB m c) (VB m c) (heads c 2 biasV (qV (k0_pay3 (XB m c)) (WqB m (opp c))) (KB m c) (VB m c)) rfl _)
  isplitl [Hs3]; · iexact Hs3
  isplitl [HK]; · iexact HK
  isplitl [HV]; · iexact HV
  iintro %v820 ⟨Hs3, HK, HV⟩
  try dsimp only
  ihave Wt0 := (waitTok_intro c true 0) $$ [C0 At0]
  · isplitl [C0]; · iexact C0
    iexact At0
  ihave Wt1 := (waitTok_intro c true 1) $$ [C1 At1]
  · isplitl [C1]; · iexact C1
    iexact At1
  ihave Wt2 := (waitTok_intro c true 2) $$ [C2 At2]
  · isplitl [C2]; · iexact C2
    iexact At2
  ihave Wt3 := (waitTok_intro c true 3) $$ [C3 At3]
  · isplitl [C3]; · iexact C3
    iexact At3
  ihave Wt4 := (waitTok_intro c true 4) $$ [C4 At4]
  · isplitl [C4]; · iexact C4
    iexact At4
  ihave Wt5 := (waitTok_intro c true 5) $$ [C5 At5]
  · isplitl [C5]; · iexact C5
    iexact At5
  rw [wp_bind]
  iapply (part24_run m κ c v820 _ _ (WoB m (opp c)) (KB m c) (VB m c) W20 (heads c 2 biasV (qV (k0_pay3 (XB m c)) (WqB m (opp c))) (KB m c) (VB m c)) rfl _)
  isplitr; · iexact HR
  isplitr; · iexact Hlev
  isplitl [Hs3]; · iexact Hs3
  isplitl [HV]; · iexact HV
  isplitl [O3]; · iexact O3
  isplitl [Hout]; · iexact Hout
  isplitl [Wt0]; · iexact Wt0
  isplitl [HO]; · iexact HO
  iintro ⟨Hs3, HV, O3, Hout, ⟨%W24, HO⟩, Et0, Q0A⟩
  try dsimp only
  rw [wp_bind]
  iapply (part25_run m κ c W24 _)
  isplitr; · iexact HR
  isplitr; · iexact Hlev
  isplitl [Wt1]; · iexact Wt1
  isplitl [Wt2]; · iexact Wt2
  isplitl [Wt3]; · iexact Wt3
  isplitl [Wt4]; · iexact Wt4
  isplitl [HO]; · iexact HO
  iintro ⟨⟨%W25, HO⟩, Et1, O0A, Et2, Q0B, Et3, O0B, Et4, Q1A⟩
  try dsimp only
  simp only [Prog.lift, Prog.bind_op, Prog.bind_ret, Prog.pure_eq_ret]
  iapply (wait_step m κ c true 5 (P := holds m wo2 c fullShare.right (WoB m (right c))) sOs2 (wo_credit _ _) Entails.refl (mayWait_ow c _ 6 (by decide)))
  isplitr; · iexact HR
  isplitr; · iexact Hlev
  isplitl [Wt5]; · iexact Wt5
  isplitl [HO]; · iexact HO
  iintro ⟨HO, Et5, O2A⟩
  rw [wp_ret, ow_end]
  ihave Q0L := (holds_join m wq0 c fullShare.right (WqB m c)) $$ [Q0A Q0B]
  · isplitl [Q0A]; · iexact Q0A
    iexact Q0B
  ihave O0L := (holds_join m wo0 c fullShare.right (WoB m c)) $$ [O0A O0B]
  · isplitl [O0A]; · iexact O0A
    iexact O0B
  ihave Q0 := (holds_join m wq0 c fullShare (WqB m c)) $$ [Q0 Q0L]
  · isplitl [Q0]; · iexact Q0
    iexact Q0L
  ihave O0 := (holds_join m wo0 c fullShare (WoB m c)) $$ [O0 O0L]
  · isplitl [O0]; · iexact O0
    iexact O0L
  ihave Q1 := (holds_join m wq1 c fullShare (WqB m (left c))) $$ [Q1 Q1A]
  · isplitl [Q1]; · iexact Q1
    iexact Q1A
  ihave O2 := (holds_join m wo2 c fullShare (WoB m (right c))) $$ [O2 O2A]
  · isplitl [O2]; · iexact O2
    iexact O2A
  ihave Q0 := (holds_any m wq0 c _) $$ Q0
  ihave Q1 := (holds_any m wq1 c _) $$ Q1
  ihave Q2 := (holds_any m wq2 c _) $$ Q2
  ihave Q3 := (holds_any m wq3 c _) $$ Q3
  ihave O0 := (holds_any m wo0 c _) $$ O0
  ihave O1 := (holds_any m wo1 c _) $$ O1
  ihave O2 := (holds_any m wo2 c _) $$ O2
  ihave O3 := (holds_any m wo3 c _) $$ O3
  ihave Hs0 := (wq_join m c) $$ [Q0 Q1 Q2 Q3]
  · isplitl [Q0]; · iexact Q0
    isplitl [Q1]; · iexact Q1
    isplitl [Q2]; · iexact Q2
    iexact Q3
  ihave Hs1 := (wo_join m c) $$ [O0 O1 O2 O3]
  · isplitl [O0]; · iexact O0
    isplitl [O1]; · iexact O1
    isplitl [O2]; · iexact O2
    iexact O3
  imod (close m (κ (barCell c)) (barCell c)) $$ [Ha] with Vb
  · isplitr; · iapply (inv_bar m κ c); iexact HR
    iexact Ha
  imod (close_x m κ c true 0) $$ [Et0] with Vt0
  · isplitr; · iexact HR
    iexact Et0
  imod (close_x m κ c true 1) $$ [Et1] with Vt1
  · isplitr; · iexact HR
    iexact Et1
  imod (close_x m κ c true 2) $$ [Et2] with Vt2
  · isplitr; · iexact HR
    iexact Et2
  imod (close_x m κ c true 3) $$ [Et3] with Vt3
  · isplitr; · iexact HR
    iexact Et3
  imod (close_x m κ c true 4) $$ [Et4] with Vt4
  · isplitr; · iexact HR
    iexact Et4
  imod (close_x m κ c true 5) $$ [Et5] with Vt5
  · isplitr; · iexact HR
    iexact Et5
  imod (close_x m κ c false 0) $$ [Ef0] with Vf0
  · isplitr; · iexact HR
    iexact Ef0
  imod (close_x m κ c false 1) $$ [Ef1] with Vf1
  · isplitr; · iexact HR
    iexact Ef1
  imod (close_x m κ c false 2) $$ [Ef2] with Vf2
  · isplitr; · iexact HR
    iexact Ef2
  imod (close_x m κ c false 3) $$ [Ef3] with Vf3
  · isplitr; · iexact HR
    iexact Ef3
  imod (close_x m κ c false 4) $$ [Ef4] with Vf4
  · isplitr; · iexact HR
    iexact Ef4
  imod (close_x m κ c false 5) $$ [Ef5] with Vf5
  · isplitr; · iexact HR
    iexact Ef5
  imodintro
  unfold bodyPost
  rw [bigSep_XI]
  isplitl [HO]; · iexact HO
  isplitl [Vb]; · iexact Vb
  isplitl [Vt0 Vt1 Vt2 Vt3 Vt4 Vt5 Vf0 Vf1 Vf2 Vf3 Vf4 Vf5]
  · isplitl [Vt0]; · iexact Vt0
    isplitl [Vt1]; · iexact Vt1
    isplitl [Vt2]; · iexact Vt2
    isplitl [Vt3]; · iexact Vt3
    isplitl [Vt4]; · iexact Vt4
    isplitl [Vt5]; · iexact Vt5
    isplitl [Vf0]; · iexact Vf0
    isplitl [Vf1]; · iexact Vf1
    isplitl [Vf2]; · iexact Vf2
    isplitl [Vf3]; · iexact Vf3
    isplitl [Vf4]; · iexact Vf4
    iexact Vf5
  isplitl [Hx Hw HK HV Hwo Hout]
  · isplitl [Hx]; · iexact Hx
    isplitl [Hw]; · iexact Hw
    isplitl [HK]; · iexact HK
    isplitl [HV]; · iexact HV
    isplitl [Hwo]; · iexact Hwo
    iexact Hout
  isplitl [Hs0]; · iexact Hs0
  isplitl [Hs1]; · iexact Hs1
  isplitl [Hs2]; · iexists _; iexact Hs2
  iexact Hs3

end Cert.KernelIdeal.Proto
-- ==== Proof.Region.lean ====
module

public import proofs.«01_k».proof.Proof.Run

@[expose] public section

noncomputable section

namespace Cert.KernelIdeal.Proto

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ)

open Idealize.ShloMosaic.Pipeline (Dat BodyObligation)

/-! ## The kernel as a region of the program -/

/-- The kernel's own semaphores. -/
def osem (p : XI) : SemLoc sig := .dma (xSem p.1 p.2)

/-- What the kernel's invariant holds when it starts and when it ends. -/
def Φ₀ (c : Dev nD) : sProp 𝕄 :=
  iprop(((∃ κ, opened m κ c) ∗ credits c ∗ levAts L lv)
    ∗ (anyBuf c cc0_scratch0 ∗ anyBuf c cc0_scratch1 ∗ (∃ f, pt c cc0_scratch2 f) ∗ (∃ f, pt c cc0_scratch3 f)) ∗ ∃ r, prngReg c r)
/-- What a device holds after the kernel. -/
def Φ₁ (c : Dev nD) : sProp 𝕄 :=
  iprop((semVal (barCell c) 0 ∗ bigSep Finset.univ fun p : XI => semVal (xCell c p.1 p.2) 0)
    ∗ (anyBuf c cc0_scratch0 ∗ anyBuf c cc0_scratch1 ∗ (∃ f, pt c cc0_scratch2 f) ∗ (∃ f, pt c cc0_scratch3 f)) ∗ ∃ r, prngReg c r)

/-- The buffers as the kernel's pipeline meets them. -/
@[irreducible] def Vin (c : Dev nD) : Valuation τ sig (Elt F) := V1 m c
/-- The contents before the kernel are those after the host's operations. -/
theorem Vin_eq (c : Dev nD) : Vin m c = V1 m c := by unfold Vin; rfl
/-- The kernel's `x`, among the contents before it. -/
theorem XB_in (c : Dev nD) : XB m c = Vin m c (Proc.devRef .tc main_arg0) := by rw [Vin_eq]; rfl
/-- The kernel's query weights, among the contents before it. -/
theorem WqB_in (c : Dev nD) : WqB m c = Vin m c (Proc.devRef .tc main_arg1) := by rw [Vin_eq]; rfl
/-- The kernel's keys, among the contents before it. -/
theorem KB_in (c : Dev nD) : KB m c = Vin m c (Proc.devRef .tc main_v15) := by rw [Vin_eq]; rfl
/-- The kernel's values, among the contents before it. -/
theorem VB_in (c : Dev nD) : VB m c = Vin m c (Proc.devRef .tc main_v16) := by rw [Vin_eq]; rfl
/-- The kernel's output weights, among the contents before it. -/
theorem WoB_in (c : Dev nD) : WoB m c = Vin m c (Proc.devRef .tc main_arg4) := by rw [Vin_eq]; rfl

/-- The pipeline's data: what each staging buffer holds before and after the body. -/
def dats (_ : Fin 1) (c : Dev nD) : Dat τ (Elt F) Unit ℕ UU ℕ cfg0 c where
  A w := Vin m c (Proc.devRef .tc (Pipeline.arrRef spec0 w))
  after w _ := match w with
    | ⟨0, _⟩ => XB m c
    | ⟨1, _⟩ => WqB m c
    | ⟨2, _⟩ => KB m c
    | ⟨3, _⟩ => VB m c
    | ⟨4, _⟩ => WoB m c
    | ⟨5, _⟩ => outB m c
  Φ t := match t with
    | ⟨0, _⟩ => Φ₀ m c
    | ⟨_ + 1, _⟩ => Φ₁ c
  q _ := fullShare
  owed t := match t with
    | ⟨0, _⟩ => O₀ c
    | ⟨_ + 1, _⟩ => 0

/-- Owning a whole buffer's view is owning the buffer. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

/-- A staging buffer owned at `X`. -/
def stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

section Before
variable (c : Dev nD) (t : Fin cfg0.N)
/-- The body meets `x` in its staging buffer. -/
theorem before0 (d) : (dats m 0 c).before (0 : Fin 6) t d = XB m c := by
  obtain rfl := fin_N0 t
  rw [XB_in]; unfold Dat.before; rw [if_pos (fetch0_0 t0_0)]
  have hz : (fun a => (win0_0.index t0_0) a * main_arg0.ty.shape.size a) = fun _ => 0 := funext fun a => by fin_cases a <;> decide
  exact Memref.read_access_unit_zero (Elt F) main_arg0 hz (fun a => by fin_cases a <;> decide) _
/-- The body meets the query weights in their staging buffer. -/
theorem before1 (d) : (dats m 0 c).before (1 : Fin 6) t d = WqB m c := by
  obtain rfl := fin_N0 t
  rw [WqB_in]; unfold Dat.before; rw [if_pos (fetch0_1 t0_0)]
  have hz : (fun a => (win0_1.index t0_0) a * main_arg1.ty.shape.size a) = fun _ => 0 := funext fun a => by fin_cases a <;> decide
  exact Memref.read_access_unit_zero (Elt F) main_arg1 hz (fun a => by fin_cases a <;> decide) _
/-- The body meets the keys in their staging buffer. -/
theorem before2 (d) : (dats m 0 c).before (2 : Fin 6) t d = KB m c := by
  obtain rfl := fin_N0 t
  rw [KB_in]; unfold Dat.before; rw [if_pos (fetch0_2 t0_0)]
  have hz : (fun a => (win0_2.index t0_0) a * main_v15.ty.shape.size a) = fun _ => 0 := funext fun a => by fin_cases a <;> decide
  exact Memref.read_access_unit_zero (Elt F) main_v15 hz (fun a => by fin_cases a <;> decide) _
/-- The body meets the values in their staging buffer. -/
theorem before3 (d) : (dats m 0 c).before (3 : Fin 6) t d = VB m c := by
  obtain rfl := fin_N0 t
  rw [VB_in]; unfold Dat.before; rw [if_pos (fetch0_3 t0_0)]
  have hz : (fun a => (win0_3.index t0_0) a * main_v16.ty.shape.size a) = fun _ => 0 := funext fun a => by fin_cases a <;> decide
  exact Memref.read_access_unit_zero (Elt F) main_v16 hz (fun a => by fin_cases a <;> decide) _
/-- The body meets the output weights in their staging buffer. -/
theorem before4 (d) : (dats m 0 c).before (4 : Fin 6) t d = WoB m c := by
  obtain rfl := fin_N0 t
  rw [WoB_in]; unfold Dat.before; rw [if_pos (fetch0_4 t0_0)]
  have hz : (fun a => (win0_4.index t0_0) a * main_arg4.ty.shape.size a) = fun _ => 0 := funext fun a => by fin_cases a <;> decide
  exact Memref.read_access_unit_zero (Elt F) main_arg4 hz (fun a => by fin_cases a <;> decide) _
end Before

/-- The result array after the one point holds what the body left in its staging buffer. -/
theorem arrAt_out (c : Dev nD) : (dats m 0 c).arrAt (5 : Fin 6) cfg0.N = outB m c := by
  have hz : (fun a => (win0_5.index t0_0) a * main_v17.ty.shape.size a) = fun _ => 0 := funext fun a => by fin_cases a <;> decide
  have hr := fun f => Memref.read_access_unit_zero (Elt F) main_v17 hz (fun a => by fin_cases a <;> decide) f
  rw [show cfg0.N = (t0_0 : Fin cfg0.N).val + 1 from rfl, (dats m 0 c).arrAt_succ (5 : Fin 6) t0_0, flush0_5, if_pos rfl]
  refine (hr _).symm.trans ?_
  exact View.read_write_univ _ _

set_option maxHeartbeats 1000000 in
/-- The body meets its obligation at the one point. -/
theorem body_ok (c : Dev nD) : BodyObligation (dats (F := F) m 0 c) (defs₀ (F := F)) 𝒱₀ () Set.univ := fun t => by
  rw [fin_N0 t]
  show iprop(Φ₀ m c ∗ (dats m 0 c).owesAt () t0_0.castSucc ∗ bigSep (Finset.univ : Finset (Fin 6)) fun w =>
      iprop(∃ d, owns (c : Thread nD τ) ((cfg0.win w).stage (cfg0.slots t0_0 w)) fullShare ((dats m 0 c).before w t0_0 d)))
    ⊢ wp frame (wpE (defs₀ (F := F)) 𝒱₀ c none) Set.univ (bodyAt0 t0_0) fun _ =>
      iprop(Φ₁ c ∗ (dats m 0 c).owesAt () t0_0.succ ∗ bigSep (Finset.univ : Finset (Fin 6)) fun w =>
        owns (c : Thread nD τ) ((cfg0.win w).stage (cfg0.slots t0_0 w)) fullShare ((dats m 0 c).after w t0_0))
  rw [bigSep_W0, bigSep_W0]
  show iprop(Φ₀ m c ∗ (dats m 0 c).owesAt () t0_0.castSucc
      ∗ (∃ d, owns (c : Thread nD τ) (Memref.whole cc0_stg0_0) fullShare ((dats m 0 c).before (0 : Fin 6) t0_0 d))
      ∗ (∃ d, owns (c : Thread nD τ) (Memref.whole cc0_stg1_0) fullShare ((dats m 0 c).before (1 : Fin 6) t0_0 d))
      ∗ (∃ d, owns (c : Thread nD τ) (Memref.whole cc0_stg2_0) fullShare ((dats m 0 c).before (2 : Fin 6) t0_0 d))
      ∗ (∃ d, owns (c : Thread nD τ) (Memref.whole cc0_stg3_0) fullShare ((dats m 0 c).before (3 : Fin 6) t0_0 d))
      ∗ (∃ d, owns (c : Thread nD τ) (Memref.whole cc0_stg4_0) fullShare ((dats m 0 c).before (4 : Fin 6) t0_0 d))
      ∗ (∃ d, owns (c : Thread nD τ) (Memref.whole cc0_stg5_0) fullShare ((dats m 0 c).before (5 : Fin 6) t0_0 d)))
    ⊢ wp frame (wpE (defs₀ (F := F)) 𝒱₀ c none) Set.univ (cc0_body (F := F) (Memref.whole cc0_stg0_0) (hstage0_0 0) (Memref.whole cc0_stg1_0) (hstage0_1 0) (Memref.whole cc0_stg2_0) (hstage0_2 0) (Memref.whole cc0_stg3_0) (hstage0_3 0) (Memref.whole cc0_stg4_0) (hstage0_4 0) (Memref.whole cc0_stg5_0) (hstage0_5 0) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7) fun _ =>
      iprop(Φ₁ c ∗ (dats m 0 c).owesAt () t0_0.succ
        ∗ owns (c : Thread nD τ) (Memref.whole cc0_stg0_0) fullShare (XB m c)
        ∗ owns (c : Thread nD τ) (Memref.whole cc0_stg1_0) fullShare (WqB m c)
        ∗ owns (c : Thread nD τ) (Memref.whole cc0_stg2_0) fullShare (KB m c)
        ∗ owns (c : Thread nD τ) (Memref.whole cc0_stg3_0) fullShare (VB m c)
        ∗ owns (c : Thread nD τ) (Memref.whole cc0_stg4_0) fullShare (WoB m c)
        ∗ owns (c : Thread nD τ) (Memref.whole cc0_stg5_0) fullShare (outB m c))
  simp only [owns_whole_eq, before0, before1, before2, before3, before4]
  unfold Φ₀ Φ₁
  iintro ⟨⟨⟨⟨%κ, Hop⟩, Hcr, Hlev⟩, Hscr, Hreg⟩, HO, ⟨%d0, %g0, %h0, H0⟩, ⟨%d1, %g1, %h1, H1⟩, ⟨%d2, %g2, %h2, H2⟩, ⟨%d3, %g3, %h3, H3⟩, ⟨%d4, %g4, %h4, H4⟩, ⟨%d5, %g5, -, H5⟩⟩
  subst h0 h1 h2 h3 h4
  unfold Dat.owesAt Pipeline.owesWithin
  icases HO with ⟨%W, %hW, HO⟩
  rw [show (dats m 0 c).owed t0_0.castSucc = O₀ c from rfl, show (dats m 0 c).owed t0_0.succ = 0 from rfl]
  ihave H := (body_run m κ c W) $$ [Hop Hcr Hlev HO H0 H1 H2 H3 H4 H5 Hscr]
  · unfold bodyPre
    isplitl [Hop]; · iexact Hop
    isplitl [Hcr]; · iexact Hcr
    isplitl [Hlev]; · iexact Hlev
    isplitl [HO]; · iexact HO
    isplitr [Hscr]
    · isplitl [H0]; · iexact H0
      isplitl [H1]; · iexact H1
      isplitl [H2]; · iexact H2
      isplitl [H3]; · iexact H3
      isplitl [H4]; · iexact H4
      iexists g5; iexact H5
    iexact Hscr
  iapply wp_wand $$ H
  iintro %_ H
  unfold bodyPost
  icases H with ⟨⟨%W', HO⟩, Hb, Hx, ⟨H0, H1, H2, H3, H4, H5⟩, Hscr⟩
  isplitl [Hb Hx Hscr Hreg]
  · isplitl [Hb Hx]
    · isplitl [Hb]; · iexact Hb
      iexact Hx
    isplitl [Hscr]; · iexact Hscr
    iexact Hreg
  isplitl [HO]
  · iexists W'
    isplitr; · ipureintro; exact fun _ _ => Or.inl trivial
    iexact HO
  isplitl [H0]
  · iexists _; isplitr; · (ipureintro; rfl)
    iexact H0
  isplitl [H1]
  · iexists _; isplitr; · (ipureintro; rfl)
    iexact H1
  isplitl [H2]
  · iexists _; isplitr; · (ipureintro; rfl)
    iexact H2
  isplitl [H3]
  · iexists _; isplitr; · (ipureintro; rfl)
    iexact H3
  isplitl [H4]
  · iexists _; isplitr; · (ipureintro; rfl)
    iexact H4
  iexists _; isplitr; · (ipureintro; rfl)
  iexact H5

/-- Every operand is owned in full. -/
theorem share_eq (c : Dev nD) (w : Fin cfg0.W) : (dats m 0 c).share w = fullShare := by unfold Dat.share; split <;> rfl

/-! ## Entry and exit of the region -/

/-- What device `c` carries from launch to the kernel. -/
def Tk (c : Dev nD) : sProp 𝕄 := iprop((∃ κ, ghost m κ c) ∗ credits c)
/-- What the protocol hands a device at the kernel's start. -/
def Xk (c : Dev nD) : sProp 𝕄 := iprop((∃ κ, opened m κ c) ∗ credits c ∗ levAts L lv)
/-- What it keeps at the kernel's end: the barrier's counter, at zero. -/
def Yk (c : Dev nD) : sProp 𝕄 := semVal (barCell c) 0

/-- Two separating conjunctions over one set are one. -/
theorem sep_join {I : Type} (s : Finset I) (Φ Ψ : I → sProp 𝕄) : iprop(bigSep s Φ ∗ bigSep s Ψ) ⊢ bigSep s fun i => iprop(Φ i ∗ Ψ i) :=
  Entails.of_eq (bigSep_sep s Φ Ψ).symm

/-- The counters handed in at zero open the copies' cells. -/
theorem hopen (c : Dev nD) : iprop(Tk m c ∗ Pipeline.ownSems0 osem c ∗ levAts L lv) ⊢ (|={Set.univ}=> Xk m c : sProp 𝕄) := by
  have hO (κ : GSem nD τ sig → ℕ) : iprop(records m κ ∗ bigSep Finset.univ fun p : XI => iprop(openTok ER (xCell c p.1 p.2) ∗ semVal (xCell c p.1 p.2) 0))
      ⊢ (|={Set.univ}=> bigSep Finset.univ fun p : XI => iprop(atPos ER (xCell c p.1 p.2) 0 ∅ 0 ∗ reached ER (xCell c p.1 p.2) 0) : sProp 𝕄) :=
    (bigSep_with_persistent (R := records m κ) (Ψ := fun p : XI => iprop(|={Set.univ}=> (atPos ER (xCell c p.1 p.2) 0 ∅ 0 ∗ reached ER (xCell c p.1 p.2) 0))) fun p _ => by
      iintro ⟨#HR, Ho, Hv⟩
      iapply (Rounds.cell_open ER (rd m) (g := xCell c p.1 p.2) (Set.mem_univ (κ (xCell c p.1 p.2))))
      isplitr; · iapply (inv_x m κ c p.1 p.2); iexact HR
      isplitl [Ho] <;> iassumption).trans (bigSep_fupd _ _)
  have hv : (Pipeline.ownSems0 osem c : sProp 𝕄) ⊢ bigSep Finset.univ fun p : XI => semVal (xCell c p.1 p.2) 0 := Entails.refl
  unfold Tk Xk ghost
  iintro ⟨⟨⟨%κ, #HR, Ha, Hop, Ht⟩, Hcr⟩, Hs, #Hlev⟩
  ihave Hs := hv $$ Hs
  imod (hO κ) $$ [Hop Hs] with Hx
  · isplitr; · iexact HR
    iapply (sep_join _ _ _)
    isplitl [Hop] <;> iassumption
  imodintro
  isplitl [Ha Ht Hx]
  · iexists κ; unfold opened
    isplitr; · iexact HR
    isplitl [Ha]; · iexact Ha
    isplitl [Hx]; · iexact Hx
    iexact Ht
  isplitl [Hcr]; · iexact Hcr
  iexact Hlev

/-- Holding no buffer is holding nothing. -/
theorem held_empty (c : Dev nD) (W : Valuation τ sig (Elt F)) : (StableHlo.held (c.tc : Thread nD τ) ∅ W : sProp 𝕄) = BI.emp := by
  unfold StableHlo.held; exact BI.bigSep_empty

/-- What is held before the kernel gives what the body starts from. -/
theorem hin (c : Dev nD) : iprop(Pipeline.scopedRest (Pipeline.pin (pcfgs (F := F)) adm 0).spec c ∗ (∃ r, prngReg c r) ∗ StableHlo.held (c.tc : Thread nD τ) ∅ (Vin m c) ∗ Xk m c)
    ⊢ (dats m 0 c).Φ 0 := by
  rw [show (dats m 0 c).Φ 0 = Φ₀ m c from rfl, show Pipeline.scopedRest (Pipeline.pin (pcfgs (F := F)) adm 0).spec c = _ from scopedRest0_eq c, held_empty]
  unfold Φ₀ Xk anyBuf
  iintro ⟨Hs, Hr, -, HX⟩
  isplitl [HX]; · iexact HX
  isplitl [Hs]; · iexact Hs
  iexact Hr
/-- What the body ends with gives what is held after the kernel. -/
theorem hout (W' : Valuation τ sig (Elt F)) (c : Dev nD) : (dats m 0 c).Φ (Fin.last (Pipeline.pin (pcfgs (F := F)) adm 0).N)
    ⊢ iprop(Pipeline.scopedRest (Pipeline.pin (pcfgs (F := F)) adm 0).spec c ∗ (∃ r, prngReg c r) ∗ StableHlo.held (c.tc : Thread nD τ) ∅ W' ∗ Pipeline.ownSems0 osem c ∗ Yk c) := by
  have hv : (bigSep Finset.univ fun p : XI => semVal (xCell c p.1 p.2) 0) ⊢ (Pipeline.ownSems0 osem c : sProp 𝕄) := Entails.refl
  rw [show (dats m 0 c).Φ (Fin.last _) = Φ₁ c from rfl, show Pipeline.scopedRest (Pipeline.pin (pcfgs (F := F)) adm 0).spec c = _ from scopedRest0_eq c, held_empty]
  unfold Φ₁ Yk anyBuf
  iintro ⟨⟨Hb, Hx⟩, Hs, Hr⟩
  isplitl [Hs]; · iexact Hs
  isplitl [Hr]; · iexact Hr
  isplitr; · iempintro
  isplitl [Hx]; · iapply hv; iexact Hx
  iexact Hb

/-- The launch facts of the kernel. -/
theorem kit : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

/-- What a device owes at the start is owed at cells with a positive level. -/
theorem O₀_pos {c : Dev nD} {g : GSem nD τ sig} {u : Unit} (h : 0 < O₀ c g u) : u ∈ L g ∧ 0 < lv g u := by
  have hb (d : Dev nD) : u ∈ L (barCell d) ∧ 0 < lv (barCell d) u := ⟨by rw [L_tc]; exact Finset.mem_singleton_self _, Nat.zero_lt_one⟩
  unfold O₀ at h
  rw [Pi.add_apply, Finsupp.add_apply] at h
  rcases Nat.add_pos_iff_pos_or_pos.mp h with h | h
  · rw [Pi.add_apply, Finsupp.add_apply] at h
    rcases Nat.add_pos_iff_pos_or_pos.mp h with h | h
    · obtain ⟨j, -, rfl⟩ := ow_pos h
      exact ⟨by rw [L_tc]; exact Finset.mem_singleton_self _, by
        show 0 < lvS (.dma (xSem false j)); rw [lvS_rcv]; split <;> decide⟩
    · rw [tallyAt_pos h]; exact hb _
  · rw [tallyAt_pos h]; exact hb _

/-- Whatever is owed sits above the staging waits. -/
theorem cut : Pipeline.LevelCutOwed (pcfgs (F := F)) adm (dats m) () L lv 0 (fun _ => (0 : ℕ)) where
  hι c w s := by rw [L_tc]; exact Finset.mem_singleton_self _
  hιb c w s := Nat.le_of_eq (by
    show lvS _ = 0
    revert s; revert w
    exact (by decide : ∀ (w : Fin 6) (s : Fin (spec0 w).nbuf), lvS (.dma ((spec0 w).sem s)) = 0))
  hD c t g i h := by
    rcases t with ⟨_ | _, ht⟩
    · exact O₀_pos (show 0 < O₀ c g i from h)
    · exact absurd h (Nat.lt_irrefl 0)

/-- The buffers when the kernel has run. -/
def Vout (c : Dev nD) : Valuation τ sig (Elt F) := Function.update (Vin m c) (Proc.devRef .tc main_v17) (outB m c)
/-- The kernel changes no buffer but its result. -/
theorem Vout_of (c : Dev nD) (b : DevRef τ sig) (h : b ≠ Proc.devRef .tc main_v17) : Vout m c b = Vin m c b := by
  unfold Vout; rw [Function.update_of_ne h]
/-- The kernel's result. -/
theorem Vout_v17 (c : Dev nD) : Vout m c (Proc.devRef .tc main_v17) = outB m c := by unfold Vout; rw [Function.update_self]

/-- The buffers that are no operand of the kernel. -/
abbrev rest : Finset (DevRef τ sig) := Pipeline.ucRefs τ sig \ Pipeline.arrRefs (τ := τ) spec0

/-- The result is an operand of the kernel. -/
theorem v17_arr : (Proc.devRef .tc main_v17 : DevRef τ sig) ∈ Pipeline.arrRefs (τ := τ) spec0 := by
  unfold Pipeline.arrRefs
  exact Finset.mem_map_of_mem _ (Finset.mem_image.mpr ⟨(5 : Fin 6), Finset.mem_univ _, rfl⟩)
/-- The buffers that are no operand stay. -/
theorem hrest (c : Dev nD) : ∀ b ∈ rest \ ∅, Vout m c b = Vin m c b := fun b hb =>
  Vout_of m c b fun h => (Finset.mem_sdiff.mp (Finset.mem_sdiff.mp hb).1).2 (h ▸ v17_arr)

/-- An input operand stays. -/
theorem arr_in (c : Dev nD) (w : Fin 6) (hw : w ≠ 5) : (dats m 0 c).arrAt w cfg0.N = Vout m c (Proc.devRef .tc (Pipeline.arrRef spec0 w)) := by
  rw [Vout_of m c _ (by revert hw; revert w; decide)]
  exact (dats (F := F) m 0 c).arrAt_in w (by revert hw; revert w; decide) _
/-- Every operand ends as said. -/
theorem arr_out (c : Dev nD) (w : Fin 6) : (dats m 0 c).arrAt w cfg0.N = Vout m c (Proc.devRef .tc (Pipeline.arrRef spec0 w)) := by
  by_cases hw : w = 5
  · subst hw; rw [arrAt_out]; exact (Vout_v17 m c).symm
  · exact arr_in m c w hw

set_option backward.isDefEq.respectTransparency.types false in
/-- The region. -/
def reg : Pipeline.RegionSeg (pcfgs (F := F)) adm (dats m) () defs₀ 𝒱₀ L lv 0 :=
  Pipeline.RegionSeg.ofTalk (pcfgs (F := F)) adm (dats m) () defs₀ 𝒱₀ L lv 0 osem (by decide : Pipeline.OwnSemFacts spec0 osem)
    ∅ rest (Finset.empty_subset _) kit rfl (fun c => (body_ok m c).loose)
    (fun _ => 0) O₀ (fun c => (zero_add _).symm) (fun _ => rfl) (fun _ => rfl) (share_eq m)
    (Vin m) (Vout m) (hrest m)
    (Tk m) Yk (Xk m) Yk (hopen m) (hin m) (fun c => hout m (Vout m c) c)
    (fun c => by iintro H; imodintro; iexact H)
    (fun _ => 0) (cut m) (fun _ => iprop(emp)) (fun _ _ => rfl) (arr_out m)

/-- The buffers held are the operands and the others. -/
theorem held_split (c : Dev nD) (W : Valuation τ sig (Elt F)) : (StableHlo.held (c.tc : Thread nD τ) (Pipeline.ucRefs τ sig) W : sProp 𝕄)
    = iprop(StableHlo.held (c.tc : Thread nD τ) (Pipeline.arrRefs (τ := τ) spec0) W ∗ StableHlo.held (c.tc : Thread nD τ) rest W) :=
  StableHlo.held_sub_split (c.tc : Thread nD τ) (Pipeline.arrRefs_sub_ucRefs spec0 (by decide)) W

/-- What rides beside the buffers before and after the kernel. -/
def E₀ (c : Dev nD) : sProp 𝕄 := iprop(Tk m c ∗ (∃ r, prngReg c r) ∗ ∃ W, owes (c : Thread nD τ) (O₀ c) W)

/-- What the launch hands a device is what its region starts from. -/
theorem reg_pre (c : Dev nD) : iprop(StableHlo.held (c : Thread nD τ) (Pipeline.ucRefs τ sig) (V1 m c) ∗ E₀ m c) ⊢ (reg m).pre c := by
  show _ ⊢ iprop(StableHlo.held (c.tc : Thread nD τ) (Pipeline.arrRefs (τ := τ) spec0) (Vin m c) ∗ (∃ r, prngReg c r)
    ∗ (StableHlo.held (c.tc : Thread nD τ) rest (Vin m c) ∗ emp) ∗ Tk m c ∗ ∃ Wd, owes (c : Thread nD τ) (0 + O₀ c) Wd)
  rw [held_split, Vin_eq, zero_add]
  unfold E₀
  iintro ⟨⟨Ha, Hr⟩, HT, Hp, HO⟩
  isplitl [Ha]; · iexact Ha
  isplitl [Hp]; · iexact Hp
  isplitl [Hr]
  · isplitl [Hr]; · iexact Hr
    iempintro
  isplitl [HT] <;> iassumption

/-- What the region ends with. -/
theorem reg_post (c : Dev nD) : (reg m).post c
    ⊢ iprop((StableHlo.held (c : Thread nD τ) (Pipeline.ucRefs τ sig) (Vout m c) ∗ semVal (barCell c) 0) ∗ ∃ W, owes (c : Thread nD τ) (0 : CellTallies nD τ sig Unit) W) := by
  show iprop(StableHlo.held (c.tc : Thread nD τ) (Pipeline.arrRefs (τ := τ) spec0) (Vout m c) ∗ (∃ r, prngReg c r)
    ∗ (StableHlo.held (c.tc : Thread nD τ) rest (Vout m c) ∗ emp) ∗ Yk c ∗ ∃ Wd, owes (c : Thread nD τ) (0 : CellTallies nD τ sig Unit) Wd) ⊢ _
  rw [held_split]
  unfold Yk
  iintro ⟨Ha, -, ⟨Hr, -⟩, Hb, HO⟩
  isplitr [HO]
  · isplitr [Hb]
    · isplitl [Ha] <;> iassumption
    iexact Hb
  iexact HO

end Cert.KernelIdeal.Proto
-- ==== Proof.Launch.lean ====
module

public import proofs.«01_k».proof.Proof.Region

@[expose] public section

noncomputable section

namespace Cert.KernelIdeal.Proto

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ)

variable (ρ : Dev nD → PrngReg)

/-! ## The launch: tokens, credit, ghost state -/

/-- Every duty's token: two per barrier cell, one per copy's cell. -/
def tokOf : Dev nD × (Bool ⊕ XI) → GSem nD τ sig × ℕ × Bool
  | (c, .inl d) => (barCell c, 0, d)
  | (c, .inr p) => (xCell c p.1 p.2, 0, false)
/-- Two duties have two tokens. -/
theorem tokOf_inj : Function.Injective tokOf := by
  rintro ⟨c, k⟩ ⟨c', k'⟩ h
  have hc : c = c' := by
    have := congrArg (fun t : GSem nD τ sig × ℕ × Bool => t.1.1.1) h
    rcases k with d | p <;> rcases k' with d' | p' <;> exact this
  subst hc
  rcases k with d | p <;> rcases k' with d' | p'
  · rw [show d = d' from congrArg (fun t : GSem nD τ sig × ℕ × Bool => t.2.2) h]
  · exact absurd (congrArg (fun t : GSem nD τ sig × ℕ × Bool => t.1.2) h) (fun e => by cases e)
  · exact absurd (congrArg (fun t : GSem nD τ sig × ℕ × Bool => t.1.2) h) (fun e => by cases e)
  · have hp := xSem_inj (SemLoc.dma.inj (congrArg (fun t : GSem nD τ sig × ℕ × Bool => t.1.2) h))
    rw [Prod.ext hp.1 hp.2]
/-- All the duties' tokens. -/
def allToks : Finset (GSem nD τ sig × ℕ × Bool) := Finset.univ.map ⟨tokOf, tokOf_inj⟩

/-- No barrier cell is a transfer's cell. -/
theorem cells_disjoint : Disjoint barCells xCells := by
  rw [Finset.disjoint_left]
  intro g h h'
  obtain ⟨c, -, rfl⟩ := Finset.mem_map.mp h
  obtain ⟨p, -, hp⟩ := Finset.mem_map.mp h'
  exact absurd (congrArg Prod.snd hp) (fun e => by cases e)

/-- Two nested separating conjunctions may be exchanged. -/
theorem sep_swap {A B : Type} [Fintype A] [Fintype B] (Φ : A → B → sProp 𝕄) :
    (bigSep Finset.univ fun a => bigSep Finset.univ fun b => Φ a b) = bigSep Finset.univ fun b => bigSep Finset.univ fun a => Φ a b :=
  (bigSep_univ_prod fun p : A × B => Φ p.1 p.2).symm.trans
    ((bigSep_univ_equiv (Equiv.prodComm B A) fun p : A × B => Φ p.1 p.2).trans (bigSep_univ_prod fun p : B × A => Φ p.2 p.1))

/-- The tokens, each with the device that pays its duty. -/
theorem toks_dealt : bigSep allToks (fun x => (dutyTok ER x.1 x.2.1 x.2.2 : sProp 𝕄)) = bigSep Finset.univ fun c : Dev nD => toksOf c := by
  have hT : bigSep allToks (fun x => (dutyTok ER x.1 x.2.1 x.2.2 : sProp 𝕄))
      = bigSep Finset.univ fun c : Dev nD => iprop((dutyTok ER (barCell c) 0 false ∗ dutyTok ER (barCell c) 0 true)
        ∗ (bigSep Finset.univ fun j : Fin 6 => dutyTok ER (xCell c false j) 0 false)
        ∗ (bigSep Finset.univ fun j : Fin 6 => dutyTok ER (xCell c true j) 0 false)) := by
    unfold allToks
    rw [bigSep_map, bigSep_univ_prod]
    refine bigSep_congr fun c _ => ?_
    rw [bigSep_univ_sum, bigSep_univ_prod (α := Bool) (β := Fin 6),
      show (Finset.univ : Finset Bool) = {false, true} from by decide,
      bigSep_insert (by decide), bigSep_singleton, bigSep_insert (by decide), bigSep_singleton]
    rfl
  have hR : (bigSep Finset.univ fun c : Dev nD => (bigSep Finset.univ fun j : Fin 6 => (dutyTok ER (xCell c false j) 0 false : sProp 𝕄)))
      = bigSep Finset.univ fun c : Dev nD => bigSep Finset.univ fun j : Fin 6 => (dutyTok ER (xCell (peer j c) false j) 0 false : sProp 𝕄) := by
    rw [sep_swap, sep_swap fun (c : Dev nD) (j : Fin 6) => (dutyTok ER (xCell (peer j c) false j) 0 false : sProp 𝕄)]
    exact bigSep_congr fun j _ => bigSep_univ_equiv (peerE j) fun c : Dev nD => (dutyTok ER (xCell c false j) 0 false : sProp 𝕄)
  rw [hT]
  unfold toksOf
  have s2 (Φ Ψ : Dev nD → sProp 𝕄) : (bigSep Finset.univ fun c => iprop(Φ c ∗ Ψ c)) = iprop(bigSep Finset.univ Φ ∗ bigSep Finset.univ Ψ) := bigSep_sep _ _ _
  rw [s2, s2, s2, s2, s2, s2, hR, bigSep_univ_equiv rightE (fun c : Dev nD => (dutyTok ER (barCell c) 0 false : sProp 𝕄)),
    bigSep_univ_equiv leftE (fun c : Dev nD => (dutyTok ER (barCell c) 0 true : sProp 𝕄))]
  have hperm (A B C D : sProp 𝕄) : iprop((A ∗ B) ∗ C ∗ D) = iprop(A ∗ B ∗ D ∗ C) := BI.Entails.antisymm
    (show iprop((A ∗ B) ∗ C ∗ D) ⊢ iprop(A ∗ B ∗ D ∗ C) by
      iintro ⟨⟨H1, H2⟩, H3, H4⟩
      isplitl [H1]; · iexact H1
      isplitl [H2]; · iexact H2
      isplitl [H4] <;> iassumption)
    (show iprop(A ∗ B ∗ D ∗ C) ⊢ iprop((A ∗ B) ∗ C ∗ D) by
      iintro ⟨H1, H2, H3, H4⟩
      isplitl [H1 H2]
      · isplitl [H1] <;> iassumption
      isplitl [H4] <;> iassumption)
  exact hperm _ _ _ _

/-- What is owed at launch is, cell by cell, the credit its waiter gets. -/
theorem credits_intro (c : Dev nD) : (Pipeline.launchCred O₀ c : sProp 𝕄) ⊢ credits c := by
  have h0 (d : Dev nD) : O₀ d = (∑ j ∈ (Finset.univ : Finset (Fin 6)), tallyAt (xCell (peer j d) false j) () N) + tallyAt (barCell (right d)) () 1 + tallyAt (barCell (left d)) () 1 := by
    unfold O₀ ow; rw [Finset.filter_true_of_mem fun j _ => Nat.zero_le _]
  rw [show (O₀ : Dev nD → CellTallies nD τ sig Unit) = fun d => (∑ j ∈ (Finset.univ : Finset (Fin 6)), tallyAt (xCell (peer j d) false j) () N) + tallyAt (barCell (right d)) () 1 + tallyAt (barCell (left d)) () 1 from funext h0,
    Pipeline.launchCred_add, Pipeline.launchCred_add, Pipeline.launchCred_sum]
  have h2 : (iprop(cred (tallyAt (barCell c) () 1) ∗ cred (tallyAt (barCell c) () 1)) : sProp 𝕄) ⊢ cred (tallyAt (barCell c) () 2) := by
    rw [show (tallyAt (barCell c) () 2 : CellTallies nD τ sig Unit) = tallyAt (barCell c) () 1 + tallyAt (barCell c) () 1 from (tallyAt_add _ _ 1 1).symm]
    exact (cred_add _ _).2
  have hj : (bigSep Finset.univ fun j : Fin 6 => (Pipeline.launchCred (fun d : Dev nD => (tallyAt (xCell (peer j d) false j) () N : CellTallies nD τ sig Unit)) c : sProp 𝕄))
      ⊢ bigSep Finset.univ fun j : Fin 6 => cred (tallyAt (xCell c false j) () N) :=
    bigSep_mono fun j _ => Pipeline.launchCred_tallyAt (.dma (xSem false j)) (peer j) (origin j) (peer_origin j) (origin_peer j) () N c
  unfold credits
  iintro ⟨⟨Hx, Hr⟩, Hl⟩
  isplitl [Hr Hl]
  · iapply h2
    isplitl [Hr]
    · iapply (Pipeline.launchCred_tallyAt (.reg barS) right left right_left left_right () 1 c); iexact Hr
    · iapply (Pipeline.launchCred_tallyAt (.reg barS) left right left_right right_left () 1 c); iexact Hl
  iapply hj; iexact Hx

/-- A resource given to device 0 alone. -/
def at0 (X : sProp 𝕄) (c : Dev nD) : sProp 𝕄 := if c = 0 then X else iprop(emp)
/-- What is given to one device alone is given once. -/
theorem at0_sum (X : sProp 𝕄) : bigSep Finset.univ (at0 X) = X := by
  rw [show (Finset.univ : Finset (Dev nD)) = insert 0 {1, 2, 3} from by decide, bigSep_insert (by decide),
    bigSep_congr (s := {1, 2, 3}) (Ψ := fun _ => (BI.emp : sProp 𝕄)) fun c hc => by
      unfold at0; rw [if_neg (by rintro rfl; exact absurd hc (by decide))]; rfl, BI.bigSep_emp_const]
  unfold at0; rw [if_pos rfl]
  exact BI.equiv_iff.mp sep_emp

/-- The launch element: the staging library's part and this protocol's. -/
def u₀ : UU :=
  (initOf (Pipeline.cells (Pipeline.pin (pcfgs (F := F)) adm) cellOf_inj) (Pipeline.launchToks (Pipeline.pin (pcfgs (F := F)) adm) cellOf_inj),
    launchOf barCells xCells allToks)
/-- This protocol's part, given to device 0 until the cells are opened. -/
def G : Dev nD → sProp 𝕄 := at0 (BI.own (ER (launchOf barCells xCells allToks)))

/-- The counter that outlives the kernel is the barrier's. -/
theorem unscoped_bar (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]
/-- No other counter outlives it. -/
theorem only_bar : ∀ sm : SemLoc sig, sm.isScoped .tc = false → sm = .reg barS := by decide

/-- A device's own holdings at launch, beside the ghost state. -/
def own₀ (c : Dev nD) : sProp 𝕄 :=
  iprop(StableHlo.held (c : Thread nD τ) (Pipeline.ucRefs τ sig) (V0 m c) ∗ credits c ∗ (∃ r, prngReg c r) ∗ owes (c : Thread nD τ) (O₀ c) ∅)
/-- A device's own part of the ghost state. -/
def mine (c : Dev nD) : sProp 𝕄 :=
  iprop(atPos ER (barCell c) 0 ∅ 0 ∗ (bigSep Finset.univ fun p : XI => openTok ER (xCell c p.1 p.2)) ∗ toksOf c)
/-- What a device starts `@main` with. -/
abbrev T₀ (c : Dev nD) : sProp 𝕄 := iprop(StableHlo.held (c : Thread nD τ) (Pipeline.ucRefs τ sig) (V0 m c) ∗ E₀ m c)

/-- The records and a device's own share are what it starts with. -/
theorem T₀_intro (κ : GSem nD τ sig → ℕ) (c : Dev nD) : iprop(records m κ ∗ (mine c ∗ own₀ m c)) ⊢ T₀ m c := by
  unfold own₀ mine T₀ E₀ Tk ghost
  iintro ⟨#HR, ⟨Ha, Ho, Ht⟩, Hh, Hcr, Hp, HO⟩
  isplitl [Hh]; · iexact Hh
  isplitl [Ha Ho Ht Hcr]
  · isplitr [Hcr]
    · iexists κ
      isplitr; · iexact HR
      isplitl [Ha]; · iexact Ha
      isplitl [Ho] <;> iassumption
    iexact Hcr
  isplitl [Hp]; · iexact Hp
  iexists ∅; iexact HO

/-- From the machine's initial holdings to what every device starts with. -/
theorem init :
    iprop((bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G (F := F) c)) ∗ levAts L lv)
      ⊢ (|={Set.univ}=> bigSep Finset.univ (T₀ m) : sProp 𝕄) := by
  have hcore (c : Dev nD) : iprop(unscopedBufs c (fun b => m ((c.tc : Thread nD τ).loc b)) ∗ unscopedSems0 c
        ∗ owes (c.tc : Thread nD τ) (O₀ c) ∅ ∗ Pipeline.launchCred O₀ c ∗ prngReg c (ρ c) ∗ G (F := F) c)
      ⊢ (iprop(own₀ m c ∗ (semVal (barCell c) 0 ∗ G c)) : sProp 𝕄) := by
    rw [show unscopedBufs c (fun b => m ((c.tc : Thread nD τ).loc b)) = StableHlo.held (c : Thread nD τ) (Pipeline.ucRefs τ sig) (V0 m c) from
      Pipeline.unscopedBufs_held (Ix := Unit) (Name := ℕ) (U := UU) (Lvl := ℕ) c (V0 m c), unscoped_bar]
    unfold own₀
    iintro ⟨Hh, Hb, HO, Hcr, Hp, HG⟩
    ihave Hcr := (credits_intro (F := F) c) $$ Hcr
    isplitl [Hh HO Hcr Hp]
    · isplitl [Hh]; · iexact Hh
      isplitl [Hcr]; · iexact Hcr
      isplitl [Hp]; · iexists (ρ c); iexact Hp
      iexact HO
    isplitl [Hb] <;> iassumption
  have split (Φ Ψ : Dev nD → sProp 𝕄) : (bigSep Finset.univ fun c => iprop(Φ c ∗ Ψ c)) ⊢ iprop(bigSep Finset.univ Φ ∗ bigSep Finset.univ Ψ) :=
    Entails.of_eq (bigSep_sep _ _ _)
  have hv : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have ha : bigSep barCells (fun g => (atPos ER g 0 ∅ 0 : sProp 𝕄)) ⊢ bigSep Finset.univ (fun c : Dev nD => (atPos ER (barCell c) 0 ∅ 0 : sProp 𝕄)) :=
    Entails.of_eq (bigSep_map (s := Finset.univ) barEmb (Φ := fun g : GSem nD τ sig => (atPos ER g 0 ∅ 0 : sProp 𝕄)))
  have ho : bigSep xCells (fun g => (openTok ER g : sProp 𝕄))
      ⊢ bigSep Finset.univ (fun c : Dev nD => bigSep Finset.univ fun p : XI => (openTok ER (xCell c p.1 p.2) : sProp 𝕄)) :=
    Entails.of_eq (by rw [bigSep_map, bigSep_univ_prod]; rfl)
  have hg : bigSep Finset.univ (G (F := F)) ⊢ BI.own (ER (launchOf barCells xCells allToks)) := Entails.of_eq (at0_sum _)
  have hall : (bigSep Finset.univ fun c : Dev nD => iprop(unscopedBufs c (fun b => m ((c.tc : Thread nD τ).loc b)) ∗ unscopedSems0 c
        ∗ owes (c.tc : Thread nD τ) (O₀ c) ∅ ∗ Pipeline.launchCred O₀ c ∗ prngReg c (ρ c) ∗ G (F := F) c))
      ⊢ (bigSep Finset.univ fun c : Dev nD => iprop(own₀ m c ∗ (semVal (barCell c) 0 ∗ G c)) : sProp 𝕄) := bigSep_mono fun c _ => hcore c
  iintro ⟨H, -⟩
  ihave H := hall $$ H
  ihave H := (split _ _) $$ H; icases H with ⟨HB, H⟩
  ihave H := (split _ _) $$ H; icases H with ⟨Hv, HG⟩
  imod (Rounds.fund_launch ER (rd m) cells_disjoint (fun g _ h => h) allToks) $$ [Hv HG] with ⟨%κ, -, #Hinv, #Hr, Hat, Hopen, Htok⟩
  · isplitl [Hv]; · iapply hv; iexact Hv
    iapply hg; iexact HG
  imodintro
  iapply (bigSep_with_persistent (R := records m κ) (Φ := fun c => iprop(mine c ∗ own₀ m c)) fun c _ => T₀_intro m κ c)
  isplitr
  · unfold records
    isplitr; · iexact Hinv
    iexact Hr
  iapply (sep_join _ _ _)
  isplitr [HB]
  · unfold mine
    iapply (sep_join _ _ _)
    isplitl [Hat]; · iapply ha; iexact Hat
    iapply (sep_join _ _ _)
    isplitl [Hopen]; · iapply ho; iexact Hopen
    iapply (Entails.of_eq (toks_dealt (F := F))); iexact Htok
  iexact HB

/-! ## The run -/

/-- The rest beside the buffers: before the kernel, and after it. -/
def E (k : Fin 2) (c : Dev nD) : sProp 𝕄 := if k = 0 then E₀ m c else iprop(emp)
/-- What a device ends with. -/
abbrev Tₙ (c : Dev nD) : sProp 𝕄 := iprop(StableHlo.held (c : Thread nD τ) (Pipeline.ucRefs τ sig) (Vout m c) ∗ semVal (barCell c) 0)

/-- An argument ends as launched. -/
theorem Vout_arg (c : Dev nD) (b : Ref sig .tc) (h : b ∉ hostOps0_W) (h' : (Proc.devRef .tc b : DevRef τ sig) ≠ Proc.devRef .tc main_v17) :
    Vout m c (Proc.devRef .tc b) = m ((c.tc : Thread nD τ).loc b) := by
  rw [Vout_of m c _ h', Vin_eq, V1_of m c b h]

/-- What one device's memory holds at the end. -/
def QY (c : Dev nD) (s : MemSt nD τ sig (Elt F)) : Prop :=
  ((s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2)
    ∧ s.mem ((c.tc : Thread nD τ).loc main_arg3) = m ((c.tc : Thread nD τ).loc main_arg3)
    ∧ s.mem ((c.tc : Thread nD τ).loc main_arg4) = m ((c.tc : Thread nD τ).loc main_arg4))
  ∧ s.mem ((c.tc : Thread nD τ).loc main_v17) = outB m c) ∧ s.sem (barCell c) = 0

/-- What a device ends with says what its memory holds. -/
theorem fin_read (c : Dev nD) (s' : Phys nD τ sig (Elt F)) : iprop(Tₙ m c ∗ SI s') ⊢ (|={Set.univ}=> iprop(⌜QY m c s'.mem⌝ ∗ SI s') : sProp 𝕄) := by
  unfold Tₙ StableHlo.held
  iintro ⟨⟨Hh, Hb⟩, HSI⟩
  icombine HSI Hb gives %hb
  ihave Hr := (pointsTo_read_all (Pipeline.ucRefs τ sig) (fun b => ((c : Thread nD τ).1, b)) (Vout m c) s') $$ [Hh HSI]
  · isplitl [Hh] <;> iassumption
  icases Hr with ⟨%h, HSI⟩
  imodintro
  isplitr
  · ipureintro
    have hm (b : Ref sig .tc) (hb : ¬ b.isScoped) := h (Proc.devRef .tc b) (Finset.mem_filter.mpr ⟨StableHlo.devRef_mem_tcRefs b, hb⟩)
    exact ⟨⟨⟨(hm main_arg0 (by decide)).trans (Vout_arg m c main_arg0 (by decide) (by decide)),
      (hm main_arg1 (by decide)).trans (Vout_arg m c main_arg1 (by decide) (by decide)),
      (hm main_arg2 (by decide)).trans (Vout_arg m c main_arg2 (by decide) (by decide)),
      (hm main_arg3 (by decide)).trans (Vout_arg m c main_arg3 (by decide) (by decide)),
      (hm main_arg4 (by decide)).trans (Vout_arg m c main_arg4 (by decide) (by decide))⟩,
      (hm main_v17 (by decide)).trans (Vout_v17 m c)⟩, by simpa using hb⟩
  iexact HSI

set_option backward.isDefEq.respectTransparency.types false in
/-- The run: from any memory with zero counters, every weakly fair execution of the program on the four devices terminates;
    every final state has the arguments as launched, the result array of each device at `outB`, and every counter at zero. -/
theorem run_main : θ_run defs (onTc (τ := τ) (main (F := F))) ⟨m, fun _ => 0, ρ⟩ (fun r => (∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.mem ((c.tc : Thread nD τ).loc main_v17) = outB m c) ∧ r.2.sem = fun _ => 0) :=
  Pipeline.θ_run_regions_kit_dev_sems (pcfgs (F := F)) adm (dats m) () cellOf_inj EP defs₀ 𝒱₀ L lv m ρ main
    (segs m 𝒱₀ L lv (E m) () (dats m) (reg m))
    (fun c Q => by
      rewrite [main_chain c, Pipeline.Seg.run_eq_chain,
        show (segs m 𝒱₀ L lv (E m) () (dats m) (reg m) c).map Pipeline.Seg.prog = [
          StableHlo.seq (hostOps0 c),
          Prog.lift (.customCall (Pipeline.entry 0) ()) ] from rfl]
      dsimp (config := { failIfUnchanged := false }) only
      exact .rfl)
    (fun c => by simp only [segs, Pipeline.Seg.pipes_host, Pipeline.Seg.pipes_region, Pipeline.Seg.pipes_nil]; decide)
    O₀ L_of_ne (G (F := F)) (u₀ (F := F))
    (by
      unfold u₀ G
      iintro Hu
      ihave H := (ownU_pair _ _) $$ Hu
      icases H with ⟨HP, HX⟩
      imodintro
      isplitl [HP]; · iexact HP
      rw [at0_sum]; iexact HX)
    (T₀ m) (Tₙ m)
    (fun c => ⟨.rfl, reg_pre m c, reg_post m c⟩)
    (init m ρ) (QY m) (fin_read m)
    (fun s h hs => ⟨fun c => (h c).1, sem_eq_zero hs fun c sm hsm => by
      obtain rfl := only_bar sm hsm
      exact (h c).2⟩)

end Cert.KernelIdeal.Proto
-- ==== Proof.Frames.lean ====
/- The four claims that need no values: the frame of each program, read off its run; and that the named constant is the
   kernel's mask. -/
module

public import proofs.«01_k».proof.Defs
public import proofs.«01_k».proof.Proof.Launch
public import proofs.«01_k».proof.Proof.Concrete.Launch
public import proofs.«01_k».proof.Proof.Gen.ReferenceIdeal.Run

@[expose] public section

noncomputable section

namespace Cert.Proof

open Idealize.ShloMosaic Idealize.SL.Sem

/-- The kernel as printed runs to the end on the four devices, its arguments as launched and every counter at zero. -/
theorem frame_kernel : Cert.quiescent_Kernel := fun m ρ _ =>
  (θ_run Cert.Kernel.defs _ _).mono (fun r h => ⟨fun c => (h.1 c).1, h.2⟩) (Cert.Kernel.Proto.run_main (F := Bits) m ρ)

/-- The kernel read over the extended reals does the same. -/
theorem frame_ideal : Cert.quiescent_KernelIdeal := fun m ρ _ =>
  (θ_run Cert.KernelIdeal.defs _ _).mono (fun r h => ⟨fun c => (h.1 c).1, h.2⟩) (Cert.KernelIdeal.Proto.run_main (F := Ideal) m ρ)

/-- The reference runs to the end with its arguments as launched; it has no counter. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The named constant is minus infinity at every index, as a scalar and as an array. -/
theorem preserves : Cert.preserves_Kernel_KernelIdeal := IdealRules.named_const.statement _ _ _ _ _ rfl

end Cert.Proof

end
-- ==== Proof.Softmax.lean ====
/-
# Softmax over a row with masked columns

The weighted mean of a row: each column's score less the row's maximum, its exponential, divided by the row's sum, times the
column's value, added up. Where the scores outside a part of the columns are `⊥`, these columns drop out of the mean, provided
the part's scores are below `⊤` and one of them is above `⊥`.
-/
module

public import Idealize.ShloMosaic.Lib.Pointwise

@[expose] public section

noncomputable section

open scoped BigOperators

namespace Cert.Attn

open Idealize.ShloMosaic

/-- The maximum of a row of scores. -/
def rowMax {ι : Type} [Fintype ι] (f : ι → EReal) : EReal := Finset.fold max ⊥ f Finset.univ
/-- A column's exponential. -/
def wgt {ι : Type} [Fintype ι] (f : ι → EReal) (j : ι) : EReal := Ideal.exp (f j - rowMax f)
/-- The weighted mean of the values `v`, the weights the softmax of the scores `f`. -/
def mean {ι : Type} [Fintype ι] (f v : ι → EReal) : EReal := ∑ j, Ideal.div (wgt f j) (∑ k, wgt f k) * v j

/-- An exponential is not negative. -/
theorem exp_nonneg (x : EReal) : 0 ≤ Ideal.exp x := by
  induction x with
  | bot => exact le_refl _
  | top => exact le_top
  | coe r => show (0 : EReal) ≤ ((Real.exp r : ℝ) : EReal); exact_mod_cast (Real.exp_pos r).le

/-- The exponential of zero is one. -/
theorem exp_zero : Ideal.exp 0 = 1 := by
  show ((Real.exp 0 : ℝ) : EReal) = 1
  rw [Real.exp_zero]; rfl

/-- A weight is not negative. -/
theorem wgt_nonneg {ι : Type} [Fintype ι] (f : ι → EReal) (j : ι) : 0 ≤ wgt f j := exp_nonneg _

/-- A column of score `⊥` has weight zero. -/
theorem wgt_bot {ι : Type} [Fintype ι] (f : ι → EReal) (j : ι) (h : f j = ⊥) : wgt f j = 0 := by
  unfold wgt; rw [h, EReal.bot_sub]; rfl

/-- The row's maximum is the supremum of its scores. -/
theorem rowMax_eq_sup {ι : Type} [Fintype ι] (f : ι → EReal) : rowMax f = Finset.univ.sup f := rfl

/-- Columns of score `⊥` do not change the maximum. -/
theorem rowMax_embed {ι κ : Type} [Fintype ι] [Fintype κ] (e : ι → κ) (f : κ → EReal) (hf : ∀ k, (∀ j, e j ≠ k) → f k = ⊥) :
    rowMax f = rowMax (f ∘ e) := by
  rw [rowMax_eq_sup, rowMax_eq_sup]
  refine le_antisymm (Finset.sup_le fun k _ => ?_) (Finset.sup_le fun j _ => Finset.le_sup (f := f) (Finset.mem_univ _))
  by_cases h : ∃ j, e j = k
  · obtain ⟨j, rfl⟩ := h
    exact Finset.le_sup (f := f ∘ e) (Finset.mem_univ j)
  · rw [hf k fun j hj => h ⟨j, hj⟩]; exact bot_le

/-- A sum whose terms vanish outside the range of an injection is the sum over its domain. -/
theorem sum_embed {ι κ : Type} [Fintype ι] [Fintype κ] (e : ι → κ) (he : Function.Injective e) (g : κ → EReal)
    (hg : ∀ k, (∀ j, e j ≠ k) → g k = 0) : ∑ k, g k = ∑ j, g (e j) := by
  classical
  rw [← Finset.sum_image (s := Finset.univ) (g := e) fun a _ b _ h => he h]
  refine (Finset.sum_subset (Finset.subset_univ _) fun k _ hk => hg k fun j hj => hk ?_).symm
  exact Finset.mem_image.2 ⟨j, Finset.mem_univ _, hj⟩

/-- The weights' sum is not zero where every score is below `⊤` and one is above `⊥`. -/
theorem sum_wgt_ne_zero {ι : Type} [Fintype ι] (f : ι → EReal) (ht : ∀ j, f j ≠ ⊤) (hb : ∃ j, f j ≠ ⊥) : ∑ j, wgt f j ≠ 0 := by
  obtain ⟨j0, h0⟩ := hb
  obtain ⟨j, -, hj⟩ := Finset.exists_mem_eq_sup Finset.univ ⟨j0, Finset.mem_univ j0⟩ f
  have hle : f j0 ≤ f j := hj ▸ Finset.le_sup (f := f) (Finset.mem_univ j0)
  have hjb : f j ≠ ⊥ := fun h => h0 (le_bot_iff.1 (h ▸ hle))
  have h1 : wgt f j = 1 := by
    unfold wgt
    rw [rowMax_eq_sup, hj, EReal.sub_self (ht j) hjb]
    exact exp_zero
  have hs : wgt f j ≤ ∑ k, wgt f k := Finset.single_le_sum (fun k _ => wgt_nonneg f k) (Finset.mem_univ j)
  rw [h1] at hs
  intro h
  rw [h] at hs
  exact absurd hs (not_le.2 zero_lt_one)

/-- Masked columns drop out of the mean. -/
theorem mean_embed {ι κ : Type} [Fintype ι] [Fintype κ] (e : ι → κ) (he : Function.Injective e) (f v : κ → EReal)
    (hf : ∀ k, (∀ j, e j ≠ k) → f k = ⊥) (ht : ∀ j, f (e j) ≠ ⊤) (hb : ∃ j, f (e j) ≠ ⊥) :
    mean f v = mean (f ∘ e) (v ∘ e) := by
  have hw : ∀ j, wgt f (e j) = wgt (f ∘ e) j := fun j => by
    unfold wgt; rw [rowMax_embed e f hf]; rfl
  have hS : ∑ k, wgt f k = ∑ j, wgt (f ∘ e) j :=
    (sum_embed e he (wgt f) fun k hk => wgt_bot f k (hf k hk)).trans (Finset.sum_congr rfl fun j _ => hw j)
  have hn : ∑ j, wgt (f ∘ e) j ≠ 0 := sum_wgt_ne_zero (f ∘ e) ht hb
  unfold mean
  rw [hS]
  refine (sum_embed e he _ fun k hk => ?_).trans (Finset.sum_congr rfl fun j _ => by rw [hw j]; rfl)
  rw [wgt_bot f k (hf k hk), Ideal.zero_div hn, zero_mul]

/-! ## Finite extended reals -/

/-- Neither infinity. -/
def Fin' (x : EReal) : Prop := x ≠ ⊥ ∧ x ≠ ⊤

/-- A finite number is a real one. -/
theorem Fin'.exists_real {x : EReal} (h : Fin' x) : ∃ r : ℝ, x = (r : EReal) := ⟨x.toReal, (EReal.coe_toReal h.2 h.1).symm⟩
/-- A real number is finite. -/
theorem fin_coe (r : ℝ) : Fin' (r : EReal) := ⟨EReal.coe_ne_bot r, EReal.coe_ne_top r⟩
/-- A product of finite numbers is finite. -/
theorem Fin'.mul {x y : EReal} (hx : Fin' x) (hy : Fin' y) : Fin' (x * y) := by
  obtain ⟨a, rfl⟩ := hx.exists_real; obtain ⟨b, rfl⟩ := hy.exists_real
  rw [← EReal.coe_mul]; exact fin_coe _
/-- A sum of two finite numbers is finite. -/
theorem Fin'.add {x y : EReal} (hx : Fin' x) (hy : Fin' y) : Fin' (x + y) := by
  obtain ⟨a, rfl⟩ := hx.exists_real; obtain ⟨b, rfl⟩ := hy.exists_real
  rw [← EReal.coe_add]; exact fin_coe _
/-- A sum of finitely many finite numbers is finite. -/
theorem fin_sum {ι : Type} (s : Finset ι) (f : ι → EReal) (h : ∀ j, Fin' (f j)) : Fin' (∑ j ∈ s, f j) := by
  classical
  induction s using Finset.induction_on with
  | empty => rw [Finset.sum_empty]; exact fin_coe 0
  | insert a s ha ih => rw [Finset.sum_insert ha]; exact (h a).add ih

/-- The scale's pattern is finite. -/
theorem fin_scale : Fin' (Ideal.ofBits .f32 0x3E000000#32) := by
  have h : Ideal.ofBits .f32 0x3E000000#32 = ((1 / 8 : ℝ) : EReal) := by
    simp [Ideal.ofBits, Ideal.ieee]
    norm_num
    rw [← EReal.coe_mul]; norm_num
  rw [h]; exact fin_coe _
/-- The pattern of minus infinity is `⊥`. -/
theorem ofBits_neg_inf : Ideal.ofBits .f32 0xFF800000#32 = (⊥ : EReal) := by
  simp [Ideal.ofBits, Ideal.ieee]
/-- The pattern of plus infinity is `⊤`. -/
theorem ofBits_inf : Ideal.ofBits .f32 0x7F800000#32 = (⊤ : EReal) := by
  simp [Ideal.ofBits, Ideal.ieee]

end Cert.Attn
-- ==== Proof.Finite.lean ====
/-
# What the precondition says
-/
module

public import proofs.«01_k».proof.Defs
public import proofs.«01_k».proof.Proof.Softmax
public import Idealize.ShloMosaic.Lib.ReduceAll

@[expose] public section

noncomputable section

namespace Cert.Proof

open Idealize.ShloMosaic
open Cert.Attn

/-- The side conditions of the precondition over one device's blocks. -/
theorem facts_finite_kernel : Cert.Pre_finite_KernelIdeal.Facts where
  bitsLt_bf16_f32 := by decide
  bcast_S_S2x128x512 := by decide
  reducesTo_S2x128x512_S_d0_1_2 := by decide
  h_S_ := by decide
  bcast_S_S512x256 := by decide
  reducesTo_S512x256_S_d0_1 := by decide
  bcast_S_S8x128x16x64 := by decide
  reducesTo_S8x128x16x64_S_d0_1_2_3 := by decide

/-- The side conditions of the precondition over the whole arrays. -/
theorem facts_finite_reference : Cert.Pre_finite_ReferenceIdeal.Facts where
  bitsLt_bf16_f32 := by decide
  bcast_S_S8x128x512 := by decide
  reducesTo_S8x128x512_S_d0_1_2 := by decide
  h_S_ := by decide
  bcast_S_S512x1024 := by decide
  reducesTo_S512x1024_S_d0_1 := by decide
  bcast_S_S8x128x16x64 := by decide
  reducesTo_S8x128x16x64_S_d0_1_2_3 := by decide

/-- One element below plus infinity and above minus infinity is finite. -/
theorem fin_of_cmp (x : EReal) (h : IntOp.andi (Ideal.cmp .olt x (Ideal.ofBits .f32 0x7F800000#32)) (Ideal.cmp .ogt x (Ideal.ofBits .f32 0xFF800000#32)) = 1#1) :
    Fin' x := by
  rw [ofBits_inf, ofBits_neg_inf, IntOp.andi_eq_one] at h
  constructor
  · rintro rfl; exact absurd h.2 (by simp [Ideal.cmp])
  · rintro rfl; exact absurd h.1 (by simp [Ideal.cmp])

section
variable [Cert.Pre_finite_KernelIdeal.Facts]
open Cert.Pre_finite_KernelIdeal

/-- Under the precondition the block of `x`, the block of `Wq` and `K_ext` are finite. -/
theorem finite_entries (x : FVec Ideal S2x128x512 .bf16) (w : FVec Ideal S512x256 .bf16) (k v : FVec Ideal S8x128x16x64 .bf16)
    (o : FVec Ideal S256x512 .bf16) (h : fn (F := Ideal) x w k v o = fun _ => 1#1) :
    (∀ i, Fin' (x i)) ∧ (∀ i, Fin' (w i)) ∧ ∀ i, Fin' (k i) := by
  have h0 := congrFun h (fun a => a.elim0)
  obtain ⟨hxw, hk⟩ := IntOp.andi_eq_one.1 h0
  obtain ⟨hx, hw⟩ := IntOp.andi_eq_one.1 hxw
  haveI : Subsingleton S_.Idx := ⟨fun a b => funext fun i => i.elim0⟩
  exact ⟨fun i => fin_of_cmp _ (Host.reduce_andi_all _ _ _ _ _ hx i), fun i => fin_of_cmp _ (Host.reduce_andi_all _ _ _ _ _ hw i),
    fun i => fin_of_cmp _ (Host.reduce_andi_all _ _ _ _ _ hk i)⟩

end

end Cert.Proof

end
-- ==== Proof.Spec.lean ====
/-
# The attention block as a plain formula

Queries are the rows of `X` times `Wq`; a score is the scaled product of a query with a key of the same head; a column is seen
by a row where its block of 64 positions is not after the row's; a head's output is the weighted mean of the values, the weights
the softmax of the seen scores; the result is the heads, side by side, times `Wo`.
-/
module

public import proofs.«01_k».proof.Proof.Softmax

@[expose] public section

noncomputable section

open scoped BigOperators

namespace Cert.Attn

open Idealize.ShloMosaic

/-- Column of head `h`, lane `d`. -/
def lane (h : Fin 16) (d : Fin 64) : Fin 1024 := ⟨h.val * 64 + d.val, by omega⟩
/-- The head of a column. -/
def headOf (n : Fin 1024) : Fin 16 := ⟨n.val / 64, by omega⟩
/-- The lane of a column. -/
def laneOf (n : Fin 1024) : Fin 64 := ⟨n.val % 64, by omega⟩

section
variable (X : (⟨3, ![8, 128, 512]⟩ : Shape).Idx → EReal) (Wq : (⟨2, ![512, 1024]⟩ : Shape).Idx → EReal)
  (K V : (⟨4, ![8, 128, 16, 64]⟩ : Shape).Idx → EReal) (Wo : (⟨2, ![1024, 512]⟩ : Shape).Idx → EReal)

/-- A query's entry. -/
def qry (b : Fin 8) (i : Fin 128) (n : Fin 1024) : EReal := ∑ d : Fin 512, X (ix3 b i d) * Wq (ix2 d n)
/-- A score. -/
def score (b : Fin 8) (h : Fin 16) (i j : Fin 128) : EReal :=
  (∑ d : Fin 64, qry X Wq b i (lane h d) * K (ix4 b j h d)) * Ideal.ofBits .f32 0x3E000000#32
/-- A score, `⊥` where the row does not see the column. -/
def seen (b : Fin 8) (h : Fin 16) (i j : Fin 128) : EReal := if j.val / 64 ≤ i.val / 64 then score X Wq K b h i j else ⊥
/-- A head's output. -/
def ctx (b : Fin 8) (i : Fin 128) (h : Fin 16) (d : Fin 64) : EReal :=
  mean (fun j : Fin 128 => seen X Wq K b h i j) (fun j => V (ix4 b j h d))
/-- The result. -/
def attn (b : Fin 8) (i : Fin 128) (e : Fin 512) : EReal :=
  ∑ n : Fin 1024, ctx X Wq K V b i (headOf n) (laneOf n) * Wo (ix2 n e)

/-- Finite queries' operands and keys make finite scores. -/
theorem fin_score (hX : ∀ i, Fin' (X i)) (hW : ∀ i, Fin' (Wq i)) (hK : ∀ i, Fin' (K i)) (b : Fin 8) (h : Fin 16) (i j : Fin 128) :
    Fin' (score X Wq K b h i j) :=
  (fin_sum _ _ fun d => (fin_sum _ _ fun e => (hX _).mul (hW _)).mul (hK _)).mul fin_scale

/-- A masked score of finite operands is not plus infinity. -/
theorem seen_ne_top (hX : ∀ i, Fin' (X i)) (hW : ∀ i, Fin' (Wq i)) (hK : ∀ i, Fin' (K i)) (b : Fin 8) (h : Fin 16) (i j : Fin 128) :
    seen X Wq K b h i j ≠ ⊤ := by
  unfold seen
  split
  · exact (fin_score X Wq K hX hW hK b h i j).2
  · exact bot_ne_top

/-- A row sees itself. -/
theorem seen_self (hX : ∀ i, Fin' (X i)) (hW : ∀ i, Fin' (Wq i)) (hK : ∀ i, Fin' (K i)) (b : Fin 8) (h : Fin 16) (i : Fin 128) :
    seen X Wq K b h i i ≠ ⊥ := by
  unfold seen
  rw [if_pos (le_refl _)]
  exact (fin_score X Wq K hX hW hK b h i i).1

end

end Cert.Attn
-- ==== Proof.KernelValue.lean ====
/-
# A device's result at an index
-/
module

public import proofs.«01_k».proof.Proof.Values
public import proofs.«01_k».proof.Proof.Spec

@[expose] public section

noncomputable section

open scoped BigOperators

namespace Cert.KernelIdeal.Plain

open Cert.KernelIdeal Cert.KernelIdeal.Gen Cert.KernelIdeal.Proto
open Idealize.ShloMosaic Idealize.ShloMosaic.TcCoe
open Cert.Attn

/-! ## The bias -/

/-- The row's batch. -/
theorem rowBatch_apply (r k : Fin 256) : k0_pay4 (iota .tc S256x256 32 [0] iota_S256x256_d0_w32) (ix2 r k) = BitVec.ofNat 32 (r.val / 128) := by
  pointwise [k0_pay4]
  clear k
  revert r
  decide

/-- Row and column are of one batch. -/
theorem sameBatch_apply (r k : Fin 256) :
    k0_pay8 (k0_pay4 (iota .tc S256x256 32 [0] iota_S256x256_d0_w32)) (k0_pay5 (iota .tc S256x256 32 [1] iota_S256x256_d1_w32))
      (k0_pay6 (iota .tc S256x256 32 [1] iota_S256x256_d1_w32)) k0_pay7 (ix2 r k)
      = IntOp.cmpi .eq (BitVec.ofNat 32 (r.val / 128)) (BitVec.ofNat 32 (k.val / 128)) := by
  pointwise [k0_pay8, k0_pay5, k0_pay6, k0_pay7]
  rw [rowBatch_apply]
  refine congrArg (IntOp.cmpi .eq _) ?_
  clear r
  revert k
  decide

/-- The column's block of 64 in its batch. -/
theorem colBlock_apply (r k : Fin 256) :
    k0_pay9 (iota .tc S256x256 32 [1] iota_S256x256_d1_w32) (ix2 r k) = BitVec.ofNat 32 (k.val % 128 / 64) := by
  pointwise [k0_pay9]
  clear r
  revert k
  decide

/-- Comparing two batches and two block numbers. -/
theorem mask_word (a b c d : Fin 2) :
    IntOp.andi (IntOp.cmpi .eq (BitVec.ofNat 32 a.val) (BitVec.ofNat 32 b.val)) (IntOp.cmpi .sle (BitVec.ofNat 32 c.val) (BitVec.ofNat 32 d.val))
      = if a.val = b.val ∧ c.val ≤ d.val then 1#1 else 0#1 := by
  revert a b c d
  decide

/-- The bias is zero where row and column are of one batch and the column's block is not after the row's, else `⊥`. -/
theorem biasV_apply (r k : Fin 256) :
    (biasV : FVec Ideal S256x256 .f32) (ix2 r k) = if r.val / 128 = k.val / 128 ∧ k.val % 128 / 64 ≤ r.val % 128 / 64 then 0 else ⊥ := by
  pointwise [biasV, k0_pay10]
  rw [sameBatch_apply, colBlock_apply]
  rw [show (Named.named κ "mask" 0xCE6E6B28#32 : Ideal .f32) = ⊥ from IdealRules.named_const.ideal_named_scalar _ _ _ _ rfl]
  have e : ∀ A B w : BitVec 32, ∀ C : BitVec 1, w = A → Scalar.select (IntOp.andi C (IntOp.cmpi .sle B w)) (0 : EReal) ⊥
      = Scalar.select (IntOp.andi C (IntOp.cmpi .sle B A)) (0 : EReal) ⊥ := fun A B w C h => by rw [h]
  refine (e (BitVec.ofNat 32 (r.val % 128 / 64)) _ _ _ ?_).trans ?_
  · clear e k
    revert r
    decide
  · rw [mask_word ⟨r.val / 128, by omega⟩ ⟨k.val / 128, by omega⟩ ⟨k.val % 128 / 64, by omega⟩ ⟨r.val % 128 / 64, by omega⟩]
    dsimp only
    split <;> rfl

/-! ## One head -/

/-- A head's output on rows of both batches: the weighted mean over the columns of both batches. -/
theorem headV_apply (b : FVec Ideal S256x256 .f32) (q : FVec Ideal S256x64 .bf16) (K V : Vec Ideal S1x2x128x64 .bf16) (r : Fin 256) (d : Fin 64) :
    headV b q K V (ix2 r d)
      = mean (fun k : Fin 256 => (∑ l : Fin 64, q (ix2 r l) * K (ix4 0 (⟨k.val / 128, by omega⟩ : Fin 2) (⟨k.val % 128, by omega⟩ : Fin 128) l))
            * Ideal.ofBits .f32 0x3E000000#32 + b (ix2 r k))
          (fun k : Fin 256 => V (ix4 0 (⟨k.val / 128, by omega⟩ : Fin 2) (⟨k.val % 128, by omega⟩ : Fin 128) d)) := by
  pointwise [headV, k0_pay31, mean, wgt, rowMax, ofBits_neg_inf]

/-- The queries at an index: the product of the rows with the weights. -/
theorem qV_apply (x : FVec Ideal S256x512 .bf16) (w : Vec Ideal S512x256 .bf16) (r n : Fin 256) :
    qV x w (ix2 r n) = ∑ d : Fin 512, x (ix2 r d) * w (ix2 d n) := by
  pointwise [qV, k0_pay11, up1]

/-- The rows of the device's two batches, one below the other. -/
theorem x2_apply (X : Vec Ideal S2x128x512 .bf16) (r : Fin 256) (d : Fin 512) :
    (k0_pay3 X : FVec Ideal S256x512 .bf16) (ix2 r d) = X (ix3 (⟨r.val / 128, by omega⟩ : Fin 2) (⟨r.val % 128, by omega⟩ : Fin 128) d) := by
  pointwise [k0_pay3]

/-- A head's queries are its 64 columns of the group's. -/
theorem qcol_apply (q : FVec Ideal S256x256 .bf16) (h : Fin 4) (r : Fin 256) (d : Fin 64) :
    qcol q h (ix2 r d) = q (ix2 r (⟨h.val * 64 + d.val, by omega⟩ : Fin 256)) := by
  match h with
  | 0 => pointwise [qcol]
  | 1 => pointwise [qcol]
  | 2 => pointwise [qcol]
  | 3 => pointwise [qcol]

/-- The head that a hop reads: head `h` of the group of device `c + a`. -/
theorem off1_0 (c : Dev nD) (a h : Fin 4) :
    k0_off1 c (BitVec.ofNat 32 a.val) (BitVec.ofNat 32 h.val) 0 = (c.val + a.val) % 4 * 4 + h.val := by
  revert c a h; decide +kernel
/-- It reads from the first batch on. -/
theorem off1_1 (c : Dev nD) (a h : Fin 4) : k0_off1 c (BitVec.ofNat 32 a.val) (BitVec.ofNat 32 h.val) 1 = 0 := by
  revert c a h; decide +kernel
/-- It reads from the first position on. -/
theorem off1_2 (c : Dev nD) (a h : Fin 4) : k0_off1 c (BitVec.ofNat 32 a.val) (BitVec.ofNat 32 h.val) 2 = 0 := by
  revert c a h; decide +kernel
/-- It reads from the first lane on. -/
theorem off1_3 (c : Dev nD) (a h : Fin 4) : k0_off1 c (BitVec.ofNat 32 a.val) (BitVec.ofNat 32 h.val) 3 = 0 := by
  revert c a h; decide +kernel

/-- The head's rows of keys or values are those of the group's head. -/
theorem blk_apply (c : Dev nD) (a h : Fin 4) (X : Vec Ideal S16x2x128x64 .bf16) (b : Fin 2) (j : Fin 128) (d : Fin 64) :
    blk c a h X (ix4 0 b j d) = X (ix4 (⟨(c.val + a.val) % 4 * 4 + h.val, by omega⟩ : Fin 16) b j d) := by
  unfold blk
  refine congrArg X (funext fun x => Fin.ext ?_)
  match x with
  | ⟨0, _⟩ => show k0_off1 c (BitVec.ofNat 32 a.val) (BitVec.ofNat 32 h.val) 0 + 1 * 0 = (c.val + a.val) % 4 * 4 + h.val; rw [off1_0]; omega
  | ⟨1, _⟩ => show k0_off1 c (BitVec.ofNat 32 a.val) (BitVec.ofNat 32 h.val) 1 + 1 * b.val = b.val; rw [off1_1]; omega
  | ⟨2, _⟩ => show k0_off1 c (BitVec.ofNat 32 a.val) (BitVec.ofNat 32 h.val) 2 + 1 * j.val = j.val; rw [off1_2]; omega
  | ⟨3, _⟩ => show k0_off1 c (BitVec.ofNat 32 a.val) (BitVec.ofNat 32 h.val) 3 + 1 * d.val = d.val; rw [off1_3]; omega

/-- A hop's context. -/
theorem hopC_apply (c : Dev nD) (a : Fin 4) (x : Vec Ideal S256x512 .bf16) (w : Vec Ideal S512x256 .bf16) (K V : Vec Ideal S16x2x128x64 .bf16)
    (r n : Fin 256) :
    hopC c a x w K V (ix2 r n)
      = headV biasV (qcol (qV x w) (⟨n.val / 64, by omega⟩ : Fin 4)) (blk c a (⟨n.val / 64, by omega⟩ : Fin 4) K)
          (blk c a (⟨n.val / 64, by omega⟩ : Fin 4) V) (ix2 r (⟨n.val % 64, by omega⟩ : Fin 64)) := by
  exact congrArg (headV _ _ _ _) (ix2_eq_valueIdx _ _).symm

/-- A device's result: the four hops' contributions. -/
theorem outV_apply (c : Dev nD) (X : Dev nD → Vec Ideal S2x128x512 .bf16) (Wq : Dev nD → Vec Ideal S512x256 .bf16)
    (Wo : Dev nD → Vec Ideal S256x512 .bf16) (K V : Vec Ideal S16x2x128x64 .bf16) (b : Fin 2) (i : Fin 128) (e : Fin 512) :
    outV c X Wq Wo K V (ix3 b i e)
      = (∑ n : Fin 256, hopC c 0 (k0_pay3 (X c)) (Wq c) K V (ix2 (⟨b.val * 128 + i.val, by omega⟩ : Fin 256) n) * Wo c (ix2 n e))
        + (∑ n : Fin 256, hopC c 3 (k0_pay3 (X c)) (Wq (left c)) K V (ix2 (⟨b.val * 128 + i.val, by omega⟩ : Fin 256) n) * Wo (left c) (ix2 n e))
        + (∑ n : Fin 256, hopC c 1 (k0_pay3 (X c)) (Wq (right c)) K V (ix2 (⟨b.val * 128 + i.val, by omega⟩ : Fin 256) n) * Wo (right c) (ix2 n e))
        + (∑ n : Fin 256, hopC c 2 (k0_pay3 (X c)) (Wq (opp c)) K V (ix2 (⟨b.val * 128 + i.val, by omega⟩ : Fin 256) n) * Wo (opp c) (ix2 n e)) := by
  pointwise [outV, k0_pay47, k0_pay38, k0_pay28, k0_pay18, up2]

end Cert.KernelIdeal.Plain
-- ==== Proof.HostValue.lean ====
/-
# The keys and values the host hands the kernel
-/
module

public import proofs.«01_k».proof.Proof.Run
public import proofs.«01_k».proof.Proof.KernelValue
public import Idealize.ShloMosaic.Lib.StableHlo.RunRead

@[expose] public section

noncomputable section

namespace Cert.KernelIdeal.Plain

open Cert.KernelIdeal Cert.KernelIdeal.Gen Cert.KernelIdeal.Proto
open Idealize.ShloMosaic Idealize.ShloMosaic.TcCoe Idealize.ShloMosaic.StableHlo

/-- The word the host counts a device's first batch by. -/
def hostRow (c : Dev nD) : IVec S_ 32 :=
  select (cmpi .slt (muli (constantI S_ 32 2#32) (id (Host.remui (Host.divui (constantI S_ 32 (Dev.word c)) (constantI S_ 32 1#32)) (constantI S_ 32 4#32)))) (constantI S_ 32 0#32))
    (addi (muli (constantI S_ 32 2#32) (id (Host.remui (Host.divui (constantI S_ 32 (Dev.word c)) (constantI S_ 32 1#32)) (constantI S_ 32 4#32)))) (constantI S_ 32 8#32))
    (muli (constantI S_ 32 2#32) (id (Host.remui (Host.divui (constantI S_ 32 (Dev.word c)) (constantI S_ 32 1#32)) (constantI S_ 32 4#32))))

/-- A device's two batches of keys or of values, heads first. -/
def hostRows (c : Dev nD) (K : Vec Ideal S8x128x16x64 .bf16) : Vec Ideal S16x2x128x64 .bf16 :=
  transpose S16x2x128x64 [2, 0, 1, 3]
    (Host.dynamicSlice S2x128x16x64 K
      (fun k => ((![hostRow c, constantI S_ 32 0#32, constantI S_ 32 0#32, constantI S_ 32 0#32] : Fin 4 → IVec S_ 32) k (Shape.Idx.first h_S_)).toInt)
      sliceFits_S8x128x16x64_S2x128x16x64)
    transposes_S2x128x16x64_S16x2x128x64_2_0_1_3

variable (m : (ℓ : Loc nD τ sig) → Buf (Elt Ideal) ℓ) (c : Dev nD)

set_option maxHeartbeats 1000000 in
/-- The keys the kernel is handed. -/
theorem KB_rows : KB m c = hostRows c (m ((c.tc : Thread nD τ).loc main_arg2)) := by
  show after (hostOps0 c) (V0 m c) (Proc.devRef .tc main_v15) = _
  after_reads_simp
  unfold hostRows
  refine congrArg (fun f => transpose S16x2x128x64 [2, 0, 1, 3] (Host.dynamicSlice S2x128x16x64 _ f sliceFits_S8x128x16x64_S2x128x16x64) transposes_S2x128x16x64_S16x2x128x64_2_0_1_3) (funext fun k => congrArg BitVec.toInt ?_)
  match k with
  | 0 => show upto (hostOps0 c) (V0 m c) 16 (Proc.devRef .tc main_v8) _ = _; after_reads_simp; rfl
  | 1 => show upto (hostOps0 c) (V0 m c) 16 (Proc.devRef .tc main_c_4) _ = _; after_reads_simp; rfl
  | 2 => show upto (hostOps0 c) (V0 m c) 16 (Proc.devRef .tc main_c_5) _ = _; after_reads_simp; rfl
  | 3 => show upto (hostOps0 c) (V0 m c) 16 (Proc.devRef .tc main_c_6) _ = _; after_reads_simp; rfl

set_option maxHeartbeats 1000000 in
/-- The values the kernel is handed. -/
theorem VB_rows : VB m c = hostRows c (m ((c.tc : Thread nD τ).loc main_arg3)) := by
  show after (hostOps0 c) (V0 m c) (Proc.devRef .tc main_v16) = _
  after_reads_simp
  unfold hostRows
  refine congrArg (fun f => transpose S16x2x128x64 [2, 0, 1, 3] (Host.dynamicSlice S2x128x16x64 _ f sliceFits_S8x128x16x64_S2x128x16x64) transposes_S2x128x16x64_S16x2x128x64_2_0_1_3) (funext fun k => congrArg BitVec.toInt ?_)
  match k with
  | 0 => show upto (hostOps0 c) (V0 m c) 27 (Proc.devRef .tc main_v13) _ = _; after_reads_simp; rfl
  | 1 => show upto (hostOps0 c) (V0 m c) 27 (Proc.devRef .tc main_c_10) _ = _; after_reads_simp; rfl
  | 2 => show upto (hostOps0 c) (V0 m c) 27 (Proc.devRef .tc main_c_11) _ = _; after_reads_simp; rfl
  | 3 => show upto (hostOps0 c) (V0 m c) 27 (Proc.devRef .tc main_c_12) _ = _; after_reads_simp; rfl

/-- The word is twice the device's number. -/
theorem hostRow_apply (i : S_.Idx) : hostRow c i = BitVec.ofNat 32 (2 * c.val) := by
  have h : ∀ w : Dev nD, (let x := IntOp.muli 2#32 (IntOp.remui .host (IntOp.divui .host (Dev.word w) 1#32) 4#32);
      Scalar.select (IntOp.cmpi .slt x 0#32) (IntOp.addi x 8#32) x) = BitVec.ofNat 32 (2 * w.val) := by
    decide +kernel
  exact h c

/-- A device's rows are those of its two batches. -/
theorem hostRows_apply (K : Vec Ideal S8x128x16x64 .bf16) (h : Fin 16) (b : Fin 2) (j : Fin 128) (d : Fin 64) :
    hostRows c K (ix4 h b j d) = K (ix4 (⟨2 * c.val + b.val, by have : c.val < 4 := c.isLt; omega⟩ : Fin 8) j h d) := by
  have hc : c.val < 4 := c.isLt
  pointwise [hostRows]
  refine congrArg K (funext fun a => Fin.ext ?_)
  match a with
  | ⟨0, _⟩ =>
    show Host.clampedStart _ _ _ _ _ + b.val = 2 * c.val + b.val
    rw [Host.clampedStart_of_le _ _ _ (2 * c.val) ?_ ?_]
    · show (hostRow c _).toInt = _
      rw [hostRow_apply]
      have h : ∀ w : Dev nD, (BitVec.ofNat 32 (2 * w.val)).toInt = ((2 * w.val : Nat) : Int) := by decide
      exact h c
    · show 2 * c.val + 2 ≤ 8
      omega
  | ⟨1, _⟩ =>
    show Host.clampedStart _ _ _ _ _ + j.val = j.val
    rw [Host.clampedStart_of_le _ _ _ 0 ?_ ?_, Nat.zero_add]
    · rfl
    · exact Nat.le_refl 128
  | ⟨2, _⟩ =>
    show Host.clampedStart _ _ _ _ _ + h.val = h.val
    rw [Host.clampedStart_of_le _ _ _ 0 ?_ ?_, Nat.zero_add]
    · rfl
    · exact Nat.le_refl 16
  | ⟨3, _⟩ =>
    show Host.clampedStart _ _ _ _ _ + d.val = d.val
    rw [Host.clampedStart_of_le _ _ _ 0 ?_ ?_, Nat.zero_add]
    · rfl
    · exact Nat.le_refl 64

end Cert.KernelIdeal.Plain

end
-- ==== Proof.RefValue.lean ====
/-
# The reference's result at an index
-/
module

public import proofs.«01_k».proof.Proof.Gen.ReferenceIdeal.Run
public import proofs.«01_k».proof.Proof.Spec

@[expose] public section

noncomputable section

open scoped BigOperators

namespace Cert.ReferenceIdeal.Plain

open Cert.ReferenceIdeal Cert.ReferenceIdeal.Gen
open Idealize.ShloMosaic Idealize.ShloMosaic.TcCoe
open Cert.Attn

/-- A position's block of 64, floor-divided as the program writes it. -/
def blk64 : IVec S128 32 :=
  select (andi (cmpi .ne (signi (iotaInDim S128 32 0)) (broadcastInDim S128 ![] bcast_S_S128 (signi (id (constantI S_ 32 64#32)))))
      (cmpi .ne (Host.remsi (iotaInDim S128 32 0) (broadcastInDim S128 ![] bcast_S_S128 (id (constantI S_ 32 64#32))))
        (broadcastInDim S128 ![] bcast_S_S128 (constantI S_ 32 0#32))))
    (subi (Host.divsi (iotaInDim S128 32 0) (broadcastInDim S128 ![] bcast_S_S128 (id (constantI S_ 32 64#32))))
      (broadcastInDim S128 ![] bcast_S_S128 (constantI S_ 32 1#32)))
    (Host.divsi (iotaInDim S128 32 0) (broadcastInDim S128 ![] bcast_S_S128 (id (constantI S_ 32 64#32))))

/-- A position's block is its number divided by 64. -/
theorem blk64_apply (i : Fin 128) : blk64 (ix1 i) = BitVec.ofNat 32 (i.val / 64) := by
  pointwise [blk64, id]
  revert i
  decide

/-- Comparing two block numbers. -/
theorem sle_blk (a b : Fin 2) : IntOp.cmpi .sle (BitVec.ofNat 32 a.val) (BitVec.ofNat 32 b.val) = if a.val ≤ b.val then 1#1 else 0#1 := by
  revert a b
  decide

/-- The mask. -/
def maskR : IVec S128x128 1 :=
  cmpi .sle (broadcastInDim S128x128 ![0, 1] bcast_S1x128_S128x128_0_1 (broadcastInDim S1x128 ![1] bcast_S128_S1x128_1 blk64))
    (broadcastInDim S128x128 ![0, 1] bcast_S128x1_S128x128_0_1 (broadcastInDim S128x1 ![0] bcast_S128_S128x1_0 blk64))

/-- The mask holds where the column's block is not after the row's. -/
theorem maskR_apply (i j : Fin 128) : maskR (ix2 i j) = if j.val / 64 ≤ i.val / 64 then 1#1 else 0#1 := by
  pointwise [maskR, blk64_apply]
  exact sle_blk ⟨j.val / 64, by omega⟩ ⟨i.val / 64, by omega⟩

/-- Every row keeps a column. -/
def keepR : IVec S128 1 := Host.reduce IntOp.ori maskR (constantI S_ 1 0#1) reducesTo_S128x128_S128_d1 h_S_

/-- Every row keeps a column: its own. -/
theorem keepR_apply (i : Fin 128) : keepR (ix1 i) = 1#1 := by
  pointwise [keepR, maskR_apply]
  rw [← Finset.insert_erase (Finset.mem_univ i), Finset.fold_insert (Finset.notMem_erase i _), if_pos (le_refl _)]
  exact (show ∀ x : BitVec 1, IntOp.ori 1#1 x = 1#1 by decide) _

section
variable (X : FVec Ideal S8x128x512 .bf16) (Wq : FVec Ideal S512x1024 .bf16) (K V : FVec Ideal S8x128x16x64 .bf16)
  (Wo : FVec Ideal S1024x512 .bf16)

/-- The scores. -/
def scoreR : FVec Ideal S8x16x128x128 .f32 :=
  mulf (extf .f32 (truncf .bf16 (Host.dotGeneral dot_S8x128x16x64_S8x128x16x64_S8x16x128x128_3_3_1_1_02_02 none
      (shapeCast _ (truncf .bf16 (Host.dotGeneral dot_S8x128x512_S512x1024_S8x128x1024_2_0_01_1_n_n none X Wq) bitsLt_bf16_f32)
        shapeCasts_S8x128x1024_S8x128x16x64) K) bitsLt_bf16_f32) bitsLt_bf16_f32)
    (broadcastInDim S8x16x128x128 ![] bcast_S_S8x16x128x128 (constant S_ .f32 0x3E000000#32))

/-- The scores at an index. -/
theorem scoreR_apply (b : Fin 8) (h : Fin 16) (i j : Fin 128) : scoreR X Wq K (ix4 b h i j) = score X Wq K b h i j := by
  pointwise [scoreR, score, qry, lane]

/-- The scores the rows see. -/
def seenR : FVec Ideal S8x16x128x128 .f32 :=
  select (broadcastInDim S8x16x128x128 ![0, 1, 2, 3] bcast_S1x1x128x128_S8x16x128x128_0_1_2_3
      (broadcastInDim S1x1x128x128 ![2, 3] bcast_S128x128_S1x1x128x128_2_3 maskR))
    (scoreR X Wq K) (broadcastInDim S8x16x128x128 ![] bcast_S_S8x16x128x128 (id (constant S_ .f32 0xFF800000#32)))

/-- The masked scores at an index: `⊥` where the row does not see the column. -/
theorem seenR_apply (b : Fin 8) (h : Fin 16) (i j : Fin 128) : seenR X Wq K (ix4 b h i j) = seen X Wq K b h i j := by
  pointwise [seenR, scoreR_apply, maskR_apply, id, ofBits_neg_inf]
  unfold seen
  split <;> rfl

/-- The rows' weights, not yet divided. -/
def wgtR : FVec Ideal S8x16x128x128 .f32 :=
  Host.exp (subf (seenR X Wq K) (broadcastInDim S8x16x128x128 ![0, 1, 2, 3] bcast_S8x16x128x1_S8x16x128x128_0_1_2_3
    (broadcastInDim S8x16x128x1 ![0, 1, 2] bcast_S8x16x128_S8x16x128x1_0_1_2
      (Host.reduce FloatOps.maximumf (seenR X Wq K) (constant S_ .f32 0xFF800000#32) reducesTo_S8x16x128x128_S8x16x128_d3 h_S_))))

/-- The weights, not yet divided, at an index. -/
theorem wgtR_apply (b : Fin 8) (h : Fin 16) (i j : Fin 128) :
    wgtR X Wq K (ix4 b h i j) = wgt (fun k : Fin 128 => seen X Wq K b h i k) j := by
  pointwise [wgtR, seenR_apply, ofBits_neg_inf, wgt, rowMax]

/-- The rows' weights. -/
def probR : FVec Ideal S8x16x128x128 .f32 :=
  select (broadcastInDim S8x16x128x128 ![0, 1, 2, 3] bcast_S1x1x128x1_S8x16x128x128_0_1_2_3
      (broadcastInDim S1x1x128x1 ![2] bcast_S128_S1x1x128x1_2 keepR))
    (Host.divf (wgtR X Wq K) (broadcastInDim S8x16x128x128 ![0, 1, 2, 3] bcast_S8x16x128x1_S8x16x128x128_0_1_2_3
      (select (broadcastInDim S8x16x128x1 ![0, 1, 2, 3] bcast_S1x1x128x1_S8x16x128x1_0_1_2_3
          (broadcastInDim S1x1x128x1 ![2] bcast_S128_S1x1x128x1_2 keepR))
        (broadcastInDim S8x16x128x1 ![0, 1, 2] bcast_S8x16x128_S8x16x128x1_0_1_2
          (Host.reduceAdd (wgtR X Wq K) (constant S_ .f32 0x00000000#32) reducesTo_S8x16x128x128_S8x16x128_d3 h_S_))
        (broadcastInDim S8x16x128x1 ![] bcast_S_S8x16x128x1 (id (constant S_ .f32 0x3F800000#32))))))
    (broadcastInDim S8x16x128x128 ![] bcast_S_S8x16x128x128 (id (constant S_ .f32 0x00000000#32)))

/-- The weights at an index. -/
theorem probR_apply (b : Fin 8) (h : Fin 16) (i j : Fin 128) :
    probR X Wq K (ix4 b h i j)
      = Ideal.div (wgt (fun k : Fin 128 => seen X Wq K b h i k) j) (∑ l, wgt (fun k : Fin 128 => seen X Wq K b h i k) l) := by
  pointwise [probR, wgtR_apply, keepR_apply, id]

/-- The result. -/
def outR : FVec Ideal S8x128x512 .f32 :=
  Host.dotGeneral dot_S8x128x1024_S1024x512_S8x128x512_2_0_01_1_n_n none
    (shapeCast _ (transpose S8x128x16x64 [0, 3, 1, 2]
      (Host.dotGeneral dot_S8x128x16x64_S8x16x128x128_S8x16x64x128_1_3_3_2_02_01 none V (probR X Wq K))
      transposes_S8x16x64x128_S8x128x16x64_0_3_1_2) shapeCasts_S8x128x16x64_S8x128x1024) Wo

/-- The result at an index is the attention layer's formula. -/
theorem outR_apply (b : Fin 8) (i : Fin 128) (e : Fin 512) : outR X Wq K V Wo (ix3 b i e) = attn X Wq K V Wo b i e := by
  pointwise [outR, probR_apply, attn, ctx, mean, headOf, laneOf]
  exact Finset.sum_congr rfl fun n _ => congrArg (· * _) (Finset.sum_congr rfl fun j _ => mul_comm _ _)

end

/-- The composed term of the reference's run is `outR` of the arguments. -/
theorem res_eq (m : (ℓ : Loc nD τ sig) → Buf (Elt Ideal) ℓ) (c : Dev nD) :
    Cert.ReferenceIdeal.Value.res_main_v36 m c = outR (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := rfl

end Cert.ReferenceIdeal.Plain
-- ==== Proof.Algebraic.lean ====
/-
# The kernel's results are the reference's
-/
module

public import proofs.«01_k».proof.Proof.Frames
public import proofs.«01_k».proof.Proof.HostValue
public import proofs.«01_k».proof.Proof.RefValue
public import proofs.«01_k».proof.Proof.Finite

@[expose] public section

noncomputable section

open scoped BigOperators

namespace Cert.Proof

open Cert.KernelIdeal Cert.KernelIdeal.Gen Cert.KernelIdeal.Proto Cert.KernelIdeal.Plain
open Idealize.ShloMosaic Idealize.ShloMosaic.TcCoe Idealize.SL.Sem
open Cert.Attn

/-- The contents of the whole `x`. -/
abbrev XT : Type := (⟨3, ![8, 128, 512]⟩ : Shape).Idx → EReal
/-- The contents of the whole `Wq`. -/
abbrev WqT : Type := (⟨2, ![512, 1024]⟩ : Shape).Idx → EReal
/-- The contents of the whole `K_ext`, or of `V_ext`. -/
abbrev KT : Type := (⟨4, ![8, 128, 16, 64]⟩ : Shape).Idx → EReal
/-- The contents of the whole `Wo`. -/
abbrev WoT : Type := (⟨2, ![1024, 512]⟩ : Shape).Idx → EReal

/-! ## Blocks at an index -/

/-- Device `c`'s block of `x` holds the batches `2 c` and `2 c + 1`. -/
theorem x_block (X : XT) (c : Fin 4) (b : Fin 2) (i : Fin 128) (d : Fin 512) :
    Layout.block ⟨3, ![2, 128, 512]⟩ ⟨3, ![8, 128, 512]⟩ 0 4 c X (by decide) (ix3 b i d) = X (ix3 (⟨2 * c.val + b.val, by omega⟩ : Fin 8) i d) := by
  rw [Layout.block_apply]
  refine congrArg X (funext fun a => Fin.ext ?_)
  match a with
  | ⟨0, _⟩ => show c.val * 2 + b.val = 2 * c.val + b.val; omega
  | ⟨1, _⟩ => rfl
  | ⟨2, _⟩ => rfl

/-- Device `g`'s block of `Wq` holds the 256 columns from `256 g` on. -/
theorem wq_block (W : WqT) (g : Fin 4) (d : Fin 512) (n : Fin 256) :
    Layout.block ⟨2, ![512, 256]⟩ ⟨2, ![512, 1024]⟩ 1 4 g W (by decide) (ix2 d n) = W (ix2 d (⟨g.val * 256 + n.val, by omega⟩ : Fin 1024)) := by
  rw [Layout.block_apply]
  refine congrArg W (funext fun a => Fin.ext ?_)
  match a with
  | ⟨0, _⟩ => rfl
  | ⟨1, _⟩ => rfl

/-- Device `g`'s block of `Wo` holds the 256 rows from `256 g` on. -/
theorem wo_block (W : WoT) (g : Fin 4) (n : Fin 256) (e : Fin 512) :
    Layout.block ⟨2, ![256, 512]⟩ ⟨2, ![1024, 512]⟩ 0 4 g W (by decide) (ix2 n e) = W (ix2 (⟨g.val * 256 + n.val, by omega⟩ : Fin 1024) e) := by
  rw [Layout.block_apply]
  refine congrArg W (funext fun a => Fin.ext ?_)
  match a with
  | ⟨0, _⟩ => rfl
  | ⟨1, _⟩ => rfl

/-! ## One hop -/

section
variable (X : XT) (Wq : WqT) (K V : KT) (Wo : WoT)
variable (hX : ∀ i, Fin' (X i)) (hW : ∀ i, Fin' (Wq i)) (hK : ∀ i, Fin' (K i))

/-- The columns of one batch among the columns of a device's two. -/
def col (b : Fin 2) (j : Fin 128) : Fin 256 := ⟨b.val * 128 + j.val, by omega⟩

/-- Two positions of a batch are two columns. -/
theorem col_injective (b : Fin 2) : Function.Injective (col b) := fun j j' h => by
  have := congrArg Fin.val h
  simp only [col] at this
  exact Fin.ext (by omega)

/-- The score the kernel adds the bias to, on the columns of the row's own batch. -/
theorem hop_score (c g : Fin 4) (b : Fin 2) (i j : Fin 128) (hh : Fin 4) (x : Vec Ideal S2x128x512 .bf16) (w : Vec Ideal S512x256 .bf16)
    (KB : Vec Ideal S16x2x128x64 .bf16)
    (hx : ∀ b i d, x (ix3 b i d) = X (ix3 (⟨2 * c.val + b.val, by omega⟩ : Fin 8) i d))
    (hw : ∀ d n, w (ix2 d n) = Wq (ix2 d (⟨g.val * 256 + n.val, by omega⟩ : Fin 1024)))
    (hk : ∀ (h : Fin 16) (b : Fin 2) (j : Fin 128) (d : Fin 64), KB (ix4 h b j d) = K (ix4 (⟨2 * c.val + b.val, by omega⟩ : Fin 8) j h d)) :
    (∑ l : Fin 64, qcol (qV (k0_pay3 x) w) hh (ix2 (col b i) l) * KB (ix4 (⟨g.val * 4 + hh.val, by omega⟩ : Fin 16) b j l)) * Ideal.ofBits .f32 0x3E000000#32
      = score X Wq K (⟨2 * c.val + b.val, by omega⟩ : Fin 8) (⟨g.val * 4 + hh.val, by omega⟩ : Fin 16) i j := by
  unfold score
  refine congrArg (· * _) (Finset.sum_congr rfl fun l _ => ?_)
  rw [qcol_apply, qV_apply, hk]
  refine congrArg (· * _) (Finset.sum_congr rfl fun d _ => ?_)
  rw [x2_apply, hx, hw]
  have e1 : (⟨(col b i).val / 128, by have := (col b i).isLt; omega⟩ : Fin 2) = b := Fin.ext (by simp only [col]; omega)
  have e2 : (⟨(col b i).val % 128, by omega⟩ : Fin 128) = i := Fin.ext (by simp only [col]; omega)
  have e3 : (⟨g.val * 256 + (hh.val * 64 + l.val), by omega⟩ : Fin 1024) = lane (⟨g.val * 4 + hh.val, by omega⟩ : Fin 16) l :=
    Fin.ext (by simp only [lane]; omega)
  rw [e1, e2, e3]

include hX hW hK in
/-- A hop's context is the attention output of the row's batch, at the group's heads. -/
theorem hop_ctx (c g : Fin 4) (a : Fin 4) (hg : g.val = (c.val + a.val) % 4) (b : Fin 2) (i : Fin 128) (n : Fin 256)
    (x : Vec Ideal S2x128x512 .bf16) (w : Vec Ideal S512x256 .bf16) (KB VB : Vec Ideal S16x2x128x64 .bf16)
    (hx : ∀ b i d, x (ix3 b i d) = X (ix3 (⟨2 * c.val + b.val, by omega⟩ : Fin 8) i d))
    (hw : ∀ d n, w (ix2 d n) = Wq (ix2 d (⟨g.val * 256 + n.val, by omega⟩ : Fin 1024)))
    (hk : ∀ (h : Fin 16) (b : Fin 2) (j : Fin 128) (d : Fin 64), KB (ix4 h b j d) = K (ix4 (⟨2 * c.val + b.val, by omega⟩ : Fin 8) j h d))
    (hv : ∀ (h : Fin 16) (b : Fin 2) (j : Fin 128) (d : Fin 64), VB (ix4 h b j d) = V (ix4 (⟨2 * c.val + b.val, by omega⟩ : Fin 8) j h d)) :
    hopC c a (k0_pay3 x) w KB VB (ix2 (col b i) n)
      = ctx X Wq K V (⟨2 * c.val + b.val, by omega⟩ : Fin 8) i (headOf ⟨g.val * 256 + n.val, by omega⟩) (laneOf ⟨g.val * 256 + n.val, by omega⟩) := by
  have eh : headOf ⟨g.val * 256 + n.val, by omega⟩ = (⟨g.val * 4 + n.val / 64, by omega⟩ : Fin 16) := Fin.ext (by simp only [headOf]; omega)
  have el : laneOf ⟨g.val * 256 + n.val, by omega⟩ = (⟨n.val % 64, by omega⟩ : Fin 64) := Fin.ext (by simp only [laneOf]; omega)
  have eg : (⟨(c.val + a.val) % 4 * 4 + n.val / 64, by omega⟩ : Fin 16) = ⟨g.val * 4 + n.val / 64, by omega⟩ := Fin.ext (by simp only [hg])
  rw [hopC_apply, headV_apply, eh, el]
  simp only [blk_apply, eg]
  unfold ctx
  have ec1 : ∀ j : Fin 128, (⟨(col b j).val / 128, by have := (col b j).isLt; omega⟩ : Fin 2) = b := fun j => Fin.ext (by simp only [col]; omega)
  have ec2 : ∀ j : Fin 128, (⟨(col b j).val % 128, by omega⟩ : Fin 128) = j := fun j => Fin.ext (by simp only [col]; omega)
  have hs : ∀ j : Fin 128, (∑ l : Fin 64, qcol (qV (k0_pay3 x) w) (⟨n.val / 64, by omega⟩ : Fin 4) (ix2 (col b i) l)
        * KB (ix4 (⟨g.val * 4 + n.val / 64, by omega⟩ : Fin 16) (⟨(col b j).val / 128, by have := (col b j).isLt; omega⟩ : Fin 2) (⟨(col b j).val % 128, by omega⟩ : Fin 128) l))
          * Ideal.ofBits .f32 0x3E000000#32 + (biasV : FVec Ideal S256x256 .f32) (ix2 (col b i) (col b j))
      = seen X Wq K (⟨2 * c.val + b.val, by omega⟩ : Fin 8) (⟨g.val * 4 + n.val / 64, by omega⟩ : Fin 16) i j := fun j => by
    rw [ec1, ec2, hop_score X Wq K c g b i j ⟨n.val / 64, by omega⟩ x w KB hx hw hk, biasV_apply]
    unfold seen
    have e1 : (col b i).val / 128 = (col b j).val / 128 := by simp only [col]; omega
    have e2 : (col b j).val % 128 / 64 = j.val / 64 := by simp only [col]; omega
    have e3 : (col b i).val % 128 / 64 = i.val / 64 := by simp only [col]; omega
    rw [e1, e2, e3]
    by_cases h : j.val / 64 ≤ i.val / 64
    · rw [if_pos ⟨rfl, h⟩, if_pos h, add_zero]
    · rw [if_neg fun h' => h h'.2, if_neg h, EReal.add_bot]
  refine (mean_embed (col b) (col_injective b) _ _ ?_ ?_ ?_).trans ?_
  · intro k hkk
    rw [biasV_apply, if_neg, EReal.add_bot]
    rintro ⟨h, -⟩
    refine hkk ⟨k.val % 128, by omega⟩ (Fin.ext ?_)
    simp only [col] at h ⊢
    omega
  · intro j
    exact (hs j).trans_ne (seen_ne_top X Wq K hX hW hK _ _ i j)
  · exact ⟨i, (hs i).trans_ne (seen_self X Wq K hX hW hK _ _ i)⟩
  · refine congrArg₂ mean (funext fun j => hs j) (funext fun j => ?_)
    show VB (ix4 _ (⟨(col b j).val / 128, by have := (col b j).isLt; omega⟩ : Fin 2) (⟨(col b j).val % 128, by omega⟩ : Fin 128) _) = _
    rw [ec1, ec2, hv]

/-- The sum over the columns of the four groups, in the order in which a device meets them, is the sum over all columns. -/
theorem sum_hops (c : Fin 4) (f : Fin 1024 → EReal) (F : Fin 4 → EReal)
    (hF : ∀ g : Fin 4, F g = ∑ n : Fin 256, f ⟨g.val * 256 + n.val, by omega⟩) :
    F c + F (left c) + F (right c) + F (opp c) = ∑ n : Fin 1024, f n := by
  rw [Fin.sum_univ_tiles 4 256 (by decide) f, ← Finset.sum_congr rfl fun g _ => hF g, Fin.sum_univ_four]
  match c with
  | 0 => show F 0 + F 3 + F 1 + F 2 = _; ac_rfl
  | 1 => show F 1 + F 0 + F 2 + F 3 = _; ac_rfl
  | 2 => show F 2 + F 1 + F 3 + F 0 = _; ac_rfl
  | 3 => show F 3 + F 2 + F 0 + F 1 = _; ac_rfl

include hX hW hK in
/-- A device's result, on blocks of the whole arrays, is its block of the reference's result. -/
theorem out_block (c : Fin 4) (x : Dev nD → Vec Ideal S2x128x512 .bf16) (w : Dev nD → Vec Ideal S512x256 .bf16) (o : Dev nD → Vec Ideal S256x512 .bf16)
    (KB VB : Vec Ideal S16x2x128x64 .bf16)
    (hx : ∀ b i d, x c (ix3 b i d) = X (ix3 (⟨2 * c.val + b.val, by omega⟩ : Fin 8) i d))
    (hw : ∀ (g : Fin 4) d n, w g (ix2 d n) = Wq (ix2 d (⟨g.val * 256 + n.val, by omega⟩ : Fin 1024)))
    (ho : ∀ (g : Fin 4) n e, o g (ix2 n e) = Wo (ix2 (⟨g.val * 256 + n.val, by omega⟩ : Fin 1024) e))
    (hk : ∀ (h : Fin 16) (b : Fin 2) (j : Fin 128) (d : Fin 64), KB (ix4 h b j d) = K (ix4 (⟨2 * c.val + b.val, by omega⟩ : Fin 8) j h d))
    (hv : ∀ (h : Fin 16) (b : Fin 2) (j : Fin 128) (d : Fin 64), VB (ix4 h b j d) = V (ix4 (⟨2 * c.val + b.val, by omega⟩ : Fin 8) j h d)) :
    outV c x w o KB VB = Layout.block ⟨3, ![2, 128, 512]⟩ ⟨3, ![8, 128, 512]⟩ 0 4 c (Cert.ReferenceIdeal.Plain.outR X Wq K V Wo) (by decide) := by
  funext z
  obtain ⟨b, i, e, rfl⟩ : ∃ (b : Fin 2) (i : Fin 128) (e : Fin 512), z = ix3 b i e := ⟨z 0, z 1, z 2, by idx_ext⟩
  rw [x_block, Cert.ReferenceIdeal.Plain.outR_apply, outV_apply]
  unfold attn
  have h : ∀ (g a : Fin 4), g.val = (c.val + a.val) % 4 →
      (∑ n : Fin 256, hopC c a (k0_pay3 (x c)) (w g) KB VB (ix2 (col b i) n) * o g (ix2 n e))
        = ∑ n : Fin 256, (fun n : Fin 1024 => ctx X Wq K V (⟨2 * c.val + b.val, by omega⟩ : Fin 8) i (headOf n) (laneOf n) * Wo (ix2 n e)) ⟨g.val * 256 + n.val, by omega⟩ :=
    fun g a hg => Finset.sum_congr rfl fun n _ => by
      rw [hop_ctx X Wq K V hX hW hK c g a hg b i n (x c) (w g) KB VB hx (hw g) hk hv, ho]
  refine Eq.trans ?_ (sum_hops c _ _ fun g => rfl)
  refine congrArg₂ (· + ·) (congrArg₂ (· + ·) (congrArg₂ (· + ·) (h c 0 ?_) (h (left c) 3 ?_)) (h (right c) 1 ?_)) (h (opp c) 2 ?_)
  · show c.val = (c.val + 0) % 4; omega
  · show (c.val + 3) % 4 = (c.val + 3) % 4; rfl
  · show (c.val + 1) % 4 = (c.val + 1) % 4; rfl
  · show ((c.val + 1) % 4 + 1) % 4 = (c.val + 2) % 4; omega

end

/-! ## The claim -/

/-- An array finite on each device's rows is finite. -/
theorem fin_of_rows (X : XT) (h : ∀ (c : Fin 4) (b : Fin 2) (i : Fin 128) (d : Fin 512), Fin' (X (ix3 (⟨2 * c.val + b.val, by omega⟩ : Fin 8) i d))) (z) :
    Fin' (X z) := by
  obtain ⟨b, i, d, rfl⟩ : ∃ (b : Fin 8) (i : Fin 128) (d : Fin 512), z = ix3 b i d := ⟨z 0, z 1, z 2, by idx_ext⟩
  have e : b = (⟨2 * (b.val / 2) + b.val % 2, by omega⟩ : Fin 8) := Fin.ext (by show b.val = 2 * (b.val / 2) + b.val % 2; omega)
  rw [e]; exact h ⟨b.val / 2, by omega⟩ ⟨b.val % 2, by omega⟩ i d

/-- An array finite on each device's columns is finite. -/
theorem fin_of_cols (W : WqT) (h : ∀ (c : Fin 4) (d : Fin 512) (n : Fin 256), Fin' (W (ix2 d (⟨c.val * 256 + n.val, by omega⟩ : Fin 1024)))) (z) :
    Fin' (W z) := by
  obtain ⟨d, n, rfl⟩ : ∃ (d : Fin 512) (n : Fin 1024), z = ix2 d n := ⟨z 0, z 1, by idx_ext⟩
  have e : n = (⟨n.val / 256 * 256 + n.val % 256, by omega⟩ : Fin 1024) := Fin.ext (by show n.val = n.val / 256 * 256 + n.val % 256; omega)
  rw [e]; exact h ⟨n.val / 256, by omega⟩ d ⟨n.val % 256, by omega⟩

/-- Under the precondition, on blocks of the same whole arrays, the kernel's result on each device is that device's
    block of the reference's result. -/
theorem algebraic [Cert.Pre_finite_KernelIdeal.Facts] : Cert.algebraic_KernelIdeal_ReferenceIdeal_pre_finite_KernelIdeal := by
  intro m g m' g' hpre hin
  have hfin := fun c : Dev nD => finite_entries _ _ _ _ _ (hpre c)
  refine ⟨Cert.ReferenceIdeal.Value.res_main_v36 m' 0, ?_, ?_⟩
  · refine (θ_run Cert.KernelIdeal.defs _ _).mono (fun r h c => ⟨(h.1 c).2.trans ?_, (h.1 c).1⟩) (run_main (F := Ideal) m g)
    rw [Cert.ReferenceIdeal.Plain.res_eq]
    refine out_block _ _ _ _ _ ?_ ?_ ?_ c (XB m) (WqB m) (WoB m) (KB m c) (VB m c) ?_ ?_ ?_ ?_ ?_
    · exact fin_of_rows _ fun q b i d => ((congrFun (hin q).1 _).trans (x_block _ q b i d)) ▸ (hfin q).1 (ix3 b i d)
    · exact fin_of_cols _ fun q d n => ((congrFun (hin q).2.1 _).trans (wq_block _ q d n)) ▸ (hfin q).2.1 (ix2 d n)
    · intro i
      have h := (hfin 0).2.2 i
      rw [(hin 0).2.2.1] at h
      exact h
    · intro b i d
      show V1 m c main_arg0 _ = _
      rw [V1_of m c main_arg0 (by decide)]
      exact (congrFun (hin c).1 _).trans (x_block _ c b i d)
    · intro q d n
      show V1 m q main_arg1 _ = _
      rw [V1_of m q main_arg1 (by decide)]
      exact (congrFun (hin q).2.1 _).trans (wq_block _ q d n)
    · intro q n e
      show V1 m q main_arg4 _ = _
      rw [V1_of m q main_arg4 (by decide)]
      exact (congrFun (hin q).2.2.2.2 _).trans (wo_block _ q n e)
    · intro h b j d
      rw [KB_rows, hostRows_apply, (hin c).2.2.1]
    · intro h b j d
      rw [VB_rows, hostRows_apply, (hin c).2.2.2.1]
  · exact (θ_run Cert.ReferenceIdeal.defs _ _).mono (fun r h => h 0) (Cert.ReferenceIdeal.Value.run (F := Ideal) m' g')

end Cert.Proof

end
-- ==== Proof.lean ====
/- The claim: every part proved in the modules under Proof/. -/
module

public import proofs.«01_k».proof.Defs
public import proofs.«01_k».proof.Proof.Frames
public import proofs.«01_k».proof.Proof.Finite
public import proofs.«01_k».proof.Proof.Algebraic
public import proofs.«01_k».proof.Proof.Gen.ReferenceIdeal.Run

@[expose] public section

noncomputable section

namespace Cert.Proof

/-- The frame of the kernel over the extended reals, from memories that satisfy the precondition. -/
theorem frame_ideal_finite [Cert.Pre_finite_KernelIdeal.Facts] : Cert.quiescent_KernelIdeal_pre_finite_KernelIdeal :=
  fun m g _ => frame_ideal m g trivial

/-- The frame of the reference, from memories that satisfy the precondition. -/
theorem frame_reference_finite [Cert.Pre_finite_ReferenceIdeal.Facts] : Cert.quiescent_ReferenceIdeal_pre_finite_ReferenceIdeal :=
  fun m g _ => frame_reference m g trivial

/-- Everything claimed. -/
theorem claim : Cert.Claim :=
  haveI := facts_finite_kernel
  haveI := facts_finite_reference
  ⟨Cert.Kernel.Gen.facts, Cert.KernelIdeal.Gen.facts, Cert.ReferenceIdeal.Gen.facts, facts_finite_kernel, facts_finite_reference,
    frame_kernel, frame_ideal, frame_ideal_finite, frame_reference, frame_reference_finite, preserves, algebraic⟩

end Cert.Proof

end
